-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S16 : Shape := ⟨1, ![16]⟩
abbrev S_ : Shape := ⟨0, ![]⟩
abbrev S1 : Shape := ⟨1, ![1]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .bf16⟩
  | .hbm, ⟨1, _⟩ => ⟨S16384x1024, .bf16⟩
  | .local _ .vmem, ⟨0, _⟩ => ⟨S8192x1024, .bf16⟩
  | .local _ .vmem, ⟨1, _⟩ => ⟨S16384x1024, .bf16⟩
  | _, _ => ⟨S8192x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v24 : BitVec 32 := Scalar.muli v2 c8192_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v27 : BitVec 32 := Scalar.muli v5 c4096_i32
  let v28 : BitVec 32 := Scalar.addi v27 c0_i32_16
  let v29 : BitVec 32 := Scalar.addi v24 v28
  let c0_i32_23 : BitVec 32 := 0#32
  ![v29.toNat, 0]
def k0_off2 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v27 : BitVec 32 := Scalar.muli v5 c4096_i32
  let v28 : BitVec 32 := Scalar.addi v27 c0_i32_16
  let c0_i32_24 : BitVec 32 := 0#32
  ![v28.toNat, 0]
def k0_dev3 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v30 : BitVec 32 := Scalar.muli v9 c8_i32_19
  let v31 : BitVec 32 := Scalar.addi c0_i32_20 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v32 : BitVec 32 := Scalar.muli v5 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v34 : BitVec 32 := Scalar.muli v8 c1_i32_22
  let v35 : BitVec 32 := Scalar.addi v33 v34
  v35.toNat
def k0_dev4 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v45 : BitVec 32 := Scalar.muli v9 c8_i32_28
  let v46 : BitVec 32 := Scalar.addi c0_i32_29 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v47 : BitVec 32 := Scalar.muli v5 c4_i32_30
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v49 : BitVec 32 := Scalar.muli v8 c1_i32_31
  let v50 : BitVec 32 := Scalar.addi v48 v49
  v50.toNat
def k0_dev5 (d0 : Dev nD) : Nat :=
  let c0_i32_38 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_37 : BitVec 32 := 8#32
  let v60 : BitVec 32 := Scalar.muli v9 c8_i32_37
  let v61 : BitVec 32 := Scalar.addi c0_i32_38 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v62 : BitVec 32 := Scalar.muli v5 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v64 : BitVec 32 := Scalar.muli v8 c1_i32_40
  let v65 : BitVec 32 := Scalar.addi v63 v64
  v65.toNat
def k0_dev6 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v75 : BitVec 32 := Scalar.muli v9 c8_i32_45
  let v76 : BitVec 32 := Scalar.addi c0_i32_46 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v77 : BitVec 32 := Scalar.muli v5 c4_i32_47
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v79 : BitVec 32 := Scalar.muli v8 c1_i32_48
  let v80 : BitVec 32 := Scalar.addi v78 v79
  v80.toNat
def k0_dev7 (d0 : Dev nD) : Nat :=
  let c0_i32_55 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_54 : BitVec 32 := 8#32
  let v90 : BitVec 32 := Scalar.muli v9 c8_i32_54
  let v91 : BitVec 32 := Scalar.addi c0_i32_55 v90
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v92 : BitVec 32 := Scalar.muli v5 c4_i32_56
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v94 : BitVec 32 := Scalar.muli v8 c1_i32_57
  let v95 : BitVec 32 := Scalar.addi v93 v94
  v95.toNat
def k0_dev8 (d0 : Dev nD) : Nat :=
  let c0_i32_63 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_62 : BitVec 32 := 8#32
  let v105 : BitVec 32 := Scalar.muli v9 c8_i32_62
  let v106 : BitVec 32 := Scalar.addi c0_i32_63 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v107 : BitVec 32 := Scalar.muli v5 c4_i32_64
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v109 : BitVec 32 := Scalar.muli v8 c1_i32_65
  let v110 : BitVec 32 := Scalar.addi v108 v109
  v110.toNat
def k0_dev9 (d0 : Dev nD) : Nat :=
  let c0_i32_71 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_70 : BitVec 32 := 8#32
  let v120 : BitVec 32 := Scalar.muli v9 c8_i32_70
  let v121 : BitVec 32 := Scalar.addi c0_i32_71 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v122 : BitVec 32 := Scalar.muli v5 c4_i32_72
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v124 : BitVec 32 := Scalar.muli v8 c1_i32_73
  let v125 : BitVec 32 := Scalar.addi v123 v124
  v125.toNat
def k0_dev10 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v135 : BitVec 32 := Scalar.muli v9 c8_i32_78
  let v136 : BitVec 32 := Scalar.addi c0_i32_79 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v137 : BitVec 32 := Scalar.muli v5 c4_i32_80
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v139 : BitVec 32 := Scalar.muli v8 c1_i32_81
  let v140 : BitVec 32 := Scalar.addi v138 v139
  v140.toNat
def k0_dev11 (d0 : Dev nD) : Nat :=
  let c0_i32_88 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_87 : BitVec 32 := 8#32
  let v150 : BitVec 32 := Scalar.muli v9 c8_i32_87
  let v151 : BitVec 32 := Scalar.addi c0_i32_88 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_89 : BitVec 32 := 4#32
  let v152 : BitVec 32 := Scalar.muli v5 c4_i32_89
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v154 : BitVec 32 := Scalar.muli v8 c1_i32_90
  let v155 : BitVec 32 := Scalar.addi v153 v154
  v155.toNat
def k0_dev12 (d0 : Dev nD) : Nat :=
  let c0_i32_96 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_95 : BitVec 32 := 8#32
  let v165 : BitVec 32 := Scalar.muli v9 c8_i32_95
  let v166 : BitVec 32 := Scalar.addi c0_i32_96 v165
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_97 : BitVec 32 := 4#32
  let v167 : BitVec 32 := Scalar.muli v5 c4_i32_97
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v169 : BitVec 32 := Scalar.muli v8 c1_i32_98
  let v170 : BitVec 32 := Scalar.addi v168 v169
  v170.toNat
def k0_dev13 (d0 : Dev nD) : Nat :=
  let c0_i32_104 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_103 : BitVec 32 := 8#32
  let v180 : BitVec 32 := Scalar.muli v9 c8_i32_103
  let v181 : BitVec 32 := Scalar.addi c0_i32_104 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v182 : BitVec 32 := Scalar.muli v5 c4_i32_105
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v184 : BitVec 32 := Scalar.muli v8 c1_i32_106
  let v185 : BitVec 32 := Scalar.addi v183 v184
  v185.toNat
def k0_dev14 (d0 : Dev nD) : Nat :=
  let c0_i32_112 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_111 : BitVec 32 := 8#32
  let v195 : BitVec 32 := Scalar.muli v9 c8_i32_111
  let v196 : BitVec 32 := Scalar.addi c0_i32_112 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v197 : BitVec 32 := Scalar.muli v5 c4_i32_113
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v199 : BitVec 32 := Scalar.muli v8 c1_i32_114
  let v200 : BitVec 32 := Scalar.addi v198 v199
  v200.toNat
def k0_dev15 (d0 : Dev nD) : Nat :=
  let c0_i32_120 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_119 : BitVec 32 := 8#32
  let v210 : BitVec 32 := Scalar.muli v9 c8_i32_119
  let v211 : BitVec 32 := Scalar.addi c0_i32_120 v210
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v212 : BitVec 32 := Scalar.muli v5 c4_i32_121
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v214 : BitVec 32 := Scalar.muli v8 c1_i32_122
  let v215 : BitVec 32 := Scalar.addi v213 v214
  v215.toNat
def k0_dev16 (d0 : Dev nD) : Nat :=
  let c0_i32_128 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_127 : BitVec 32 := 8#32
  let v225 : BitVec 32 := Scalar.muli v9 c8_i32_127
  let v226 : BitVec 32 := Scalar.addi c0_i32_128 v225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v227 : BitVec 32 := Scalar.muli v5 c4_i32_129
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v229 : BitVec 32 := Scalar.muli v8 c1_i32_130
  let v230 : BitVec 32 := Scalar.addi v228 v229
  v230.toNat
def k0_dev17 (d0 : Dev nD) : Nat :=
  let c0_i32_136 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_135 : BitVec 32 := 8#32
  let v240 : BitVec 32 := Scalar.muli v9 c8_i32_135
  let v241 : BitVec 32 := Scalar.addi c0_i32_136 v240
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v242 : BitVec 32 := Scalar.muli v5 c4_i32_137
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v244 : BitVec 32 := Scalar.muli v8 c1_i32_138
  let v245 : BitVec 32 := Scalar.addi v243 v244
  v245.toNat
def k0_dev18 (d0 : Dev nD) : Nat :=
  let c0_i32_144 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_143 : BitVec 32 := 8#32
  let v255 : BitVec 32 := Scalar.muli v9 c8_i32_143
  let v256 : BitVec 32 := Scalar.addi c0_i32_144 v255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v257 : BitVec 32 := Scalar.muli v5 c4_i32_145
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v259 : BitVec 32 := Scalar.muli v8 c1_i32_146
  let v260 : BitVec 32 := Scalar.addi v258 v259
  v260.toNat
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v24 : BitVec 32 := Scalar.muli v2 c8192_i32
  let v269 : Index := Scalar.indexCast v24
  let c0_150 : Index := 0#32
  ![v269.toNat, 0]
def k0_off4 (d0 : Dev nD) (c0_i32_160 : BitVec 32) : Fin 2 → Nat :=
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_14 v2
  let c8192_i32_15 : BitVec 32 := 8192#32
  let v26 : BitVec 32 := Scalar.muli v25 c8192_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_159 : BitVec 32 := 4096#32
  let v281 : BitVec 32 := Scalar.muli v5 c4096_i32_159
  let v282 : BitVec 32 := Scalar.addi v26 v281
  let v283 : BitVec 32 := Scalar.addi v282 c0_i32_160
  let c0_i32_167 : BitVec 32 := 0#32
  ![v283.toNat, 0]
def k0_dev19 (d0 : Dev nD) : Nat :=
  let c0_i32_164 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_163 : BitVec 32 := 8#32
  let v284 : BitVec 32 := Scalar.muli v2 c8_i32_163
  let v285 : BitVec 32 := Scalar.addi c0_i32_164 v284
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_165 : BitVec 32 := 4#32
  let v286 : BitVec 32 := Scalar.muli v10 c4_i32_165
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v288 : BitVec 32 := Scalar.muli v8 c1_i32_166
  let v289 : BitVec 32 := Scalar.addi v287 v288
  v289.toNat
def k0_dev20 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v309 : BitVec 32 := Scalar.muli v2 c8_i32_181
  let v310 : BitVec 32 := Scalar.addi c0_i32_182 v309
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_183 : BitVec 32 := 4#32
  let v311 : BitVec 32 := Scalar.muli v10 c4_i32_183
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v313 : BitVec 32 := Scalar.muli v8 c1_i32_184
  let v314 : BitVec 32 := Scalar.addi v312 v313
  v314.toNat
def k0_dev21 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v334 : BitVec 32 := Scalar.muli v2 c8_i32_199
  let v335 : BitVec 32 := Scalar.addi c0_i32_200 v334
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_201 : BitVec 32 := 4#32
  let v336 : BitVec 32 := Scalar.muli v10 c4_i32_201
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v338 : BitVec 32 := Scalar.muli v8 c1_i32_202
  let v339 : BitVec 32 := Scalar.addi v337 v338
  v339.toNat
def k0_dev22 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v359 : BitVec 32 := Scalar.muli v2 c8_i32_217
  let v360 : BitVec 32 := Scalar.addi c0_i32_218 v359
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_219 : BitVec 32 := 4#32
  let v361 : BitVec 32 := Scalar.muli v10 c4_i32_219
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v363 : BitVec 32 := Scalar.muli v8 c1_i32_220
  let v364 : BitVec 32 := Scalar.addi v362 v363
  v364.toNat
def k0_dev23 (d0 : Dev nD) : Nat :=
  let c0_i32_236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_235 : BitVec 32 := 8#32
  let v384 : BitVec 32 := Scalar.muli v2 c8_i32_235
  let v385 : BitVec 32 := Scalar.addi c0_i32_236 v384
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_237 : BitVec 32 := 4#32
  let v386 : BitVec 32 := Scalar.muli v10 c4_i32_237
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v388 : BitVec 32 := Scalar.muli v8 c1_i32_238
  let v389 : BitVec 32 := Scalar.addi v387 v388
  v389.toNat
def k0_dev24 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v409 : BitVec 32 := Scalar.muli v2 c8_i32_253
  let v410 : BitVec 32 := Scalar.addi c0_i32_254 v409
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_255 : BitVec 32 := 4#32
  let v411 : BitVec 32 := Scalar.muli v10 c4_i32_255
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v413 : BitVec 32 := Scalar.muli v8 c1_i32_256
  let v414 : BitVec 32 := Scalar.addi v412 v413
  v414.toNat
def k0_dev25 (d0 : Dev nD) : Nat :=
  let c0_i32_272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_271 : BitVec 32 := 8#32
  let v434 : BitVec 32 := Scalar.muli v2 c8_i32_271
  let v435 : BitVec 32 := Scalar.addi c0_i32_272 v434
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_273 : BitVec 32 := 4#32
  let v436 : BitVec 32 := Scalar.muli v10 c4_i32_273
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v438 : BitVec 32 := Scalar.muli v8 c1_i32_274
  let v439 : BitVec 32 := Scalar.addi v437 v438
  v439.toNat
def k0_dev26 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v459 : BitVec 32 := Scalar.muli v2 c8_i32_289
  let v460 : BitVec 32 := Scalar.addi c0_i32_290 v459
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_291 : BitVec 32 := 4#32
  let v461 : BitVec 32 := Scalar.muli v10 c4_i32_291
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v463 : BitVec 32 := Scalar.muli v8 c1_i32_292
  let v464 : BitVec 32 := Scalar.addi v462 v463
  v464.toNat
def k0_dev27 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v484 : BitVec 32 := Scalar.muli v2 c8_i32_307
  let v485 : BitVec 32 := Scalar.addi c0_i32_308 v484
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_309 : BitVec 32 := 4#32
  let v486 : BitVec 32 := Scalar.muli v10 c4_i32_309
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v488 : BitVec 32 := Scalar.muli v8 c1_i32_310
  let v489 : BitVec 32 := Scalar.addi v487 v488
  v489.toNat
def k0_dev28 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v509 : BitVec 32 := Scalar.muli v2 c8_i32_325
  let v510 : BitVec 32 := Scalar.addi c0_i32_326 v509
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_327 : BitVec 32 := 4#32
  let v511 : BitVec 32 := Scalar.muli v10 c4_i32_327
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v513 : BitVec 32 := Scalar.muli v8 c1_i32_328
  let v514 : BitVec 32 := Scalar.addi v512 v513
  v514.toNat
def k0_dev29 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v534 : BitVec 32 := Scalar.muli v2 c8_i32_343
  let v535 : BitVec 32 := Scalar.addi c0_i32_344 v534
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_345 : BitVec 32 := 4#32
  let v536 : BitVec 32 := Scalar.muli v10 c4_i32_345
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v538 : BitVec 32 := Scalar.muli v8 c1_i32_346
  let v539 : BitVec 32 := Scalar.addi v537 v538
  v539.toNat
def k0_dev30 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v559 : BitVec 32 := Scalar.muli v2 c8_i32_361
  let v560 : BitVec 32 := Scalar.addi c0_i32_362 v559
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_363 : BitVec 32 := 4#32
  let v561 : BitVec 32 := Scalar.muli v10 c4_i32_363
  let v562 : BitVec 32 := Scalar.addi v560 v561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v563 : BitVec 32 := Scalar.muli v8 c1_i32_364
  let v564 : BitVec 32 := Scalar.addi v562 v563
  v564.toNat
def k0_dev31 (d0 : Dev nD) : Nat :=
  let c0_i32_380 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379 : BitVec 32 := 8#32
  let v584 : BitVec 32 := Scalar.muli v2 c8_i32_379
  let v585 : BitVec 32 := Scalar.addi c0_i32_380 v584
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_381 : BitVec 32 := 4#32
  let v586 : BitVec 32 := Scalar.muli v10 c4_i32_381
  let v587 : BitVec 32 := Scalar.addi v585 v586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v588 : BitVec 32 := Scalar.muli v8 c1_i32_382
  let v589 : BitVec 32 := Scalar.addi v587 v588
  v589.toNat
def k0_dev32 (d0 : Dev nD) : Nat :=
  let c0_i32_398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_397 : BitVec 32 := 8#32
  let v609 : BitVec 32 := Scalar.muli v2 c8_i32_397
  let v610 : BitVec 32 := Scalar.addi c0_i32_398 v609
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_399 : BitVec 32 := 4#32
  let v611 : BitVec 32 := Scalar.muli v10 c4_i32_399
  let v612 : BitVec 32 := Scalar.addi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v613 : BitVec 32 := Scalar.muli v8 c1_i32_400
  let v614 : BitVec 32 := Scalar.addi v612 v613
  v614.toNat
def k0_dev33 (d0 : Dev nD) : Nat :=
  let c0_i32_416 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_415 : BitVec 32 := 8#32
  let v634 : BitVec 32 := Scalar.muli v2 c8_i32_415
  let v635 : BitVec 32 := Scalar.addi c0_i32_416 v634
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_417 : BitVec 32 := 4#32
  let v636 : BitVec 32 := Scalar.muli v10 c4_i32_417
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v638 : BitVec 32 := Scalar.muli v8 c1_i32_418
  let v639 : BitVec 32 := Scalar.addi v637 v638
  v639.toNat
def k0_dev34 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v659 : BitVec 32 := Scalar.muli v2 c8_i32_433
  let v660 : BitVec 32 := Scalar.addi c0_i32_434 v659
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_435 : BitVec 32 := 4#32
  let v661 : BitVec 32 := Scalar.muli v10 c4_i32_435
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v663 : BitVec 32 := Scalar.muli v8 c1_i32_436
  let v664 : BitVec 32 := Scalar.addi v662 v663
  v664.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh, the bands of rows, and what every device gathers

Pure mathematics of the kernel, no separation logic: the two neighbours of a device, the bands of rows the
copies move, the element of a buffer a slice of it names, and the contents the result buffer of a device ends at.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-! ## The two neighbours of a device

Device `c` stands at `x = c / 8`, `y = c / 4 % 2`, `z = c % 4`. -/

set_option backward.proofsInPublic true in
/-- The neighbour across the first mesh axis. -/
def X (c : Dev nD) : Dev nD := ⟨(c.val + 8) % 16, Nat.mod_lt _ (by decide)⟩

set_option backward.proofsInPublic true in
/-- The neighbour across the second mesh axis. -/
def Y (c : Dev nD) : Dev nD := ⟨8 * (c.val / 8) + (c.val + 4) % 8, by have := c.isLt; have h : nD = 16 := rfl; omega⟩

/-- Crossing the first axis twice comes back. -/
theorem X_X (c : Dev nD) : X (X c) = c := by revert c; decide
/-- Crossing the second axis twice comes back. -/
theorem Y_Y (c : Dev nD) : Y (Y c) = c := by revert c; decide

/-- The reflection of the mesh in its first axis. -/
def flipX : Dev nD ≃ Dev nD := ⟨X, X, X_X, X_X⟩
/-- The reflection of the mesh in its second axis. -/
def flipY : Dev nD ≃ Dev nD := ⟨Y, Y, Y_Y, Y_Y⟩

/-- A device's number read off a word the kernel computes, when the word's value is the neighbour's. -/
theorem dev_of_val {n : ℕ} {h : n < nD} {d : Dev nD} (e : n = d.val) : (⟨n, h⟩ : Dev nD) = d := Fin.ext e

/-- The closed form the kernel's targets across the first axis have. -/
theorem X_val (c : Dev nD) : (4 * ((c.val / 4) % 2) + (c.val % 4) + 8) - 8 * (c.val / 8) = (X c).val := by
  revert c; decide
/-- The closed form the kernel's targets across the second axis have. -/
theorem Y_val (c : Dev nD) : (8 * (c.val / 8) + (c.val % 4) + 4) - 4 * ((c.val / 4) % 2) = (Y c).val := by
  revert c; decide

/-- The first coordinate of the neighbours. -/
theorem X_x (c : Dev nD) : (X c).val / 8 = 1 - c.val / 8 := by revert c; decide
/-- Crossing the first axis keeps the second coordinate; -/
theorem X_y (c : Dev nD) : (X c).val / 4 % 2 = c.val / 4 % 2 := by revert c; decide
/-- crossing the second keeps the first -/
theorem Y_x (c : Dev nD) : (Y c).val / 8 = c.val / 8 := by revert c; decide
/-- and changes the second. -/
theorem Y_y (c : Dev nD) : (Y c).val / 4 % 2 = 1 - c.val / 4 % 2 := by revert c; decide
/-- The first coordinate is 0 or 1, -/
theorem x_le (c : Dev nD) : c.val / 8 ≤ 1 := by revert c; decide
/-- and so is the second. -/
theorem y_le (c : Dev nD) : c.val / 4 % 2 ≤ 1 := by revert c; decide

/-! ## Bands of rows -/

/-- The first row of the quarter of the result that device `d` sends directly. -/
def base (d : Dev nD) : ℕ := 8192 * (d.val / 8) + 4096 * (d.val / 4 % 2)

/-- The first row, within a device's own argument, of what it sends directly. -/
def xbase (d : Dev nD) : ℕ := 4096 * (d.val / 4 % 2)

/-- The elements of rows `lo ≤ r < hi` of an array of 1024 columns. -/
def band (n lo hi : ℕ) : Finset (⟨2, ![n, 1024]⟩ : Shape).Idx :=
  Finset.univ.filter fun i => lo ≤ (i 0).val ∧ (i 0).val < hi

/-- An element is in a band when its row is. -/
theorem mem_band {n lo hi : ℕ} {i : (⟨2, ![n, 1024]⟩ : Shape).Idx} : i ∈ band n lo hi ↔ lo ≤ (i 0).val ∧ (i 0).val < hi := by
  unfold band; rw [Finset.mem_filter]; exact ⟨fun h => h.2, fun h => ⟨Finset.mem_univ _, h⟩⟩

/-- Bands one after the other share no element. -/
theorem band_disjoint {n lo hi lo' hi' : ℕ} (h : hi ≤ lo' ∨ hi' ≤ lo) : Disjoint (band n lo hi) (band n lo' hi') :=
  Finset.disjoint_left.mpr fun i h1 h2 => by
    rw [mem_band] at h1 h2; omega

/-- A band of 4096 rows is cut into the sixteen bands of 256 rows of the sixteen copies. -/
theorem band_cut (n lo : ℕ) :
    band n lo (lo + 4096) = (Finset.univ : Finset (Fin 16)).biUnion fun k => band n (lo + 256 * k.val) (lo + 256 * k.val + 256) := by
  ext i
  rw [Finset.mem_biUnion, mem_band]
  constructor
  · intro h
    refine ⟨⟨((i 0).val - lo) / 256, by omega⟩, Finset.mem_univ _, ?_⟩
    rw [mem_band]; dsimp only; omega
  · rintro ⟨k, _, hk⟩
    rw [mem_band] at hk; have := k.isLt; omega

/-- The sixteen bands of 256 rows are pairwise disjoint. -/
theorem band_cut_disjoint (n lo : ℕ) (k k' : Fin 16) (h : k ≠ k') :
    Disjoint (band n (lo + 256 * k.val) (lo + 256 * k.val + 256)) (band n (lo + 256 * k'.val) (lo + 256 * k'.val + 256)) :=
  band_disjoint (by have : k.val ≠ k'.val := fun e => h (Fin.ext e); omega)

/-- The rows of the result: device `c`'s own half, and the two quarters that come from across the first axis. -/
theorem out_cover (c : Dev nD) :
    (Finset.univ : Finset (⟨2, ![16384, 1024]⟩ : Shape).Idx)
      = band 16384 (8192 * (c.val / 8)) (8192 * (c.val / 8) + 8192)
        ∪ (band 16384 (base (X c)) (base (X c) + 4096) ∪ band 16384 (base (X (Y c))) (base (X (Y c)) + 4096)) := by
  ext i
  have hi : (i 0).val < 16384 := (i 0).isLt
  have := x_le c; have := y_le c
  rw [Finset.mem_union, Finset.mem_union, mem_band, mem_band, mem_band]
  unfold base; rw [X_x, X_y, X_x, X_y, Y_x, Y_y]
  constructor
  · intro _; omega
  · intro _; exact Finset.mem_univ _

/-- The two quarters from across are disjoint, -/
theorem quarters_disjoint (c : Dev nD) :
    Disjoint (band 16384 (base (X c)) (base (X c) + 4096)) (band 16384 (base (X (Y c))) (base (X (Y c)) + 4096)) :=
  band_disjoint (by
    have := x_le c; have := y_le c
    unfold base; rw [X_x, X_y, X_x, X_y, Y_x, Y_y]; omega)

/-- and the own half is disjoint from both. -/
theorem own_disjoint (c : Dev nD) :
    Disjoint (band 16384 (8192 * (c.val / 8)) (8192 * (c.val / 8) + 8192))
      (band 16384 (base (X c)) (base (X c) + 4096) ∪ band 16384 (base (X (Y c))) (base (X (Y c)) + 4096)) := by
  have := x_le c; have := y_le c
  refine Finset.disjoint_union_right.mpr ⟨band_disjoint ?_, band_disjoint ?_⟩ <;>
    (unfold base; rw [X_x, X_y]; try rw [Y_x, Y_y]); all_goals omega

/-! ## The memrefs and the elements their slices name -/

/-- The staged argument and the staged result. -/
abbrev xM : Memref sig .tc .vmem S8192x1024 .bf16 := Memref.whole cc0_stg0_0
/-- The staged result. -/
abbrev oM : Memref sig .tc .vmem S16384x1024 .bf16 := Memref.whole cc0_stg1_0

/-- A slice of 256 rows of the argument, at the row `lo` it starts from. -/
abbrev xSl (off : Fin 2 → ℕ) (inb : ∀ a, off a + S256x1024.size a ≤ S8192x1024.size a) : Memref sig .tc .vmem S256x1024 .bf16 :=
  (xM : Memref sig .tc .vmem S8192x1024 .bf16).slice (Rect.unit (s := S8192x1024) off S256x1024.size inb) (fun _ => rfl)
/-- A slice of 256 rows of the result. -/
abbrev oSl (off : Fin 2 → ℕ) (inb : ∀ a, off a + S256x1024.size a ≤ S16384x1024.size a) : Memref sig .tc .vmem S256x1024 .bf16 :=
  (oM : Memref sig .tc .vmem S16384x1024 .bf16).slice (Rect.unit (s := S16384x1024) off S256x1024.size inb) (fun _ => rfl)

/-- The elements of a slice of the argument are a band, -/
theorem xSl_set (lo : ℕ) (inb) : (xSl ![lo, 0] inb).view.set = band 8192 lo (lo + 256) := by
  show ((View.whole cc0_stg0_0).slice (Rect.unit (s := S8192x1024) ![lo, 0] S256x1024.size inb)).set = _
  rw [View.set_slice_whole]
  ext i
  have h1 : (i 1).val < 1024 := (i 1).isLt
  rw [mem_band]
  refine Rect.mem_set_unit.trans ((Fin.forall_fin_two (p := fun a => _ ≤ _ ∧ _ < _)).trans ?_)
  show (lo ≤ (i 0).val ∧ (i 0).val < lo + 256) ∧ (0 ≤ (i 1).val ∧ (i 1).val < 0 + 1024) ↔ _
  omega

/-- and so are those of a slice of the result. -/
theorem oSl_set (lo : ℕ) (inb) : (oSl ![lo, 0] inb).view.set = band 16384 lo (lo + 256) := by
  show ((View.whole cc0_stg1_0).slice (Rect.unit (s := S16384x1024) ![lo, 0] S256x1024.size inb)).set = _
  rw [View.set_slice_whole]
  ext i
  have h1 : (i 1).val < 1024 := (i 1).isLt
  rw [mem_band]
  refine Rect.mem_set_unit.trans ((Fin.forall_fin_two (p := fun a => _ ≤ _ ∧ _ < _)).trans ?_)
  show (lo ≤ (i 0).val ∧ (i 0).val < lo + 256) ∧ (0 ≤ (i 1).val ∧ (i 1).val < 0 + 1024) ↔ _
  omega

/-! ## What a device gathers -/

/-- Where row `r` of the whole is in the half that holds it. -/
def inHalf (i : (⟨2, ![16384, 1024]⟩ : Shape).Idx) : (⟨2, ![8192, 1024]⟩ : Shape).Idx := fun a =>
  ⟨if a = 0 then (i 0).val % 8192 else (i 1).val, by
    have h1 : (i 1).val < 1024 := (i 1).isLt
    have h0 : (i 0).val % 8192 < 8192 := Nat.mod_lt _ (by decide)
    revert a; rw [Fin.forall_fin_two]
    exact ⟨by rw [if_pos rfl]; exact h0, by rw [if_neg (by decide)]; exact h1⟩⟩

/-- Its row is the row modulo 8192, -/
theorem inHalf_0 (i) : (inHalf i 0).val = (i 0).val % 8192 := rfl
/-- its column the column. -/
theorem inHalf_1 (i) : (inHalf i 1).val = (i 1).val := rfl

/-- The device whose argument device `c` finds in row `r` of its result: itself in its own half; across, the neighbour
    over the first axis in the quarter that neighbour sends, and the neighbour's neighbour in the other. -/
def source (c : Dev nD) (r : ℕ) : Dev nD :=
  if r / 8192 = c.val / 8 then c else if r % 8192 / 4096 = c.val / 4 % 2 then X c else X (Y c)

/-- The result of device `c`, of the arguments `x` of all the devices. -/
def gathered {α : Type} (x : Dev nD → (⟨2, ![8192, 1024]⟩ : Shape).Idx → α) (c : Dev nD) : (⟨2, ![16384, 1024]⟩ : Shape).Idx → α :=
  fun i => x (source c (i 0).val) (inHalf i)

/-- In its own half a device has its own argument. -/
theorem source_own (c : Dev nD) {r : ℕ} (h : 8192 * (c.val / 8) ≤ r) (h' : r < 8192 * (c.val / 8) + 8192) : source c r = c := by
  unfold source; exact if_pos (by omega)
/-- In the quarter device `c` sends it, its neighbour across the first axis has `c`'s argument. -/
theorem source_direct (c : Dev nD) {r : ℕ} (h : base c ≤ r) (h' : r < base c + 4096) : source (X c) r = c := by
  unfold base at h h'
  have := x_le c; have := y_le c
  unfold source; rw [X_x, X_y, if_neg (by omega), if_pos (by omega), X_X]
/-- In the quarter device `c` received, `c` has its neighbour's argument, and so has the neighbour `c` forwards it to. -/
theorem source_received (c : Dev nD) {r : ℕ} (h : base (X c) ≤ r) (h' : r < base (X c) + 4096) : source c r = X c := by
  have := source_direct (X c) h h'; rwa [X_X] at this
/-- The device it forwards that quarter to has the same argument there. -/
theorem source_forwarded (c : Dev nD) {r : ℕ} (h : base (X c) ≤ r) (h' : r < base (X c) + 4096) : source (Y c) r = X c := by
  unfold base at h h'; rw [X_x, X_y] at h h'
  have := x_le c; have := y_le c
  unfold source; rw [Y_x, Y_y, if_neg (by omega), if_neg (by omega), Y_Y]

variable (x : Dev nD → (⟨2, ![8192, 1024]⟩ : Shape).Idx → Elt F .bf16)

/-- A direct copy lands what its target is to gather: chunk `k` of device `c`'s argument, written to the rows
    of the result of `X c` it is sent to, agrees there with what `X c` gathers. -/
theorem direct_lands (c : Dev nD) (k : Fin 16) (inbo inbx)
    (fd : (cc0_stg1_0 : Ref sig .tc).ty.Contents (Elt F)) (i : (oSl ![base c + 256 * k.val, 0] inbo).view.ty.Idx)
    (hi : i ∈ (oSl ![base c + 256 * k.val, 0] inbo).view.set) :
    (oSl ![base c + 256 * k.val, 0] inbo).view.write (Elt F) fd
        ((xSl ![xbase c + 256 * k.val, 0] inbx).view.read (Elt F) (x c)) Finset.univ i
      = gathered x (X c) i := by
  obtain ⟨j, -, rfl⟩ := Finset.mem_map.mp hi
  refine (View.write_emb_of_mem _ _ (Finset.mem_univ j)).trans ?_
  have hj : (j 0).val < 256 := (j 0).isLt
  have e0 : (((oSl ![base c + 256 * k.val, 0] inbo).view.emb j) 0).val = base c + 256 * k.val + (j 0).val :=
    ValueKit.view_emb_slice_whole_unit_val cc0_stg1_0 _ _ inbo j 0
  have e1 : (((oSl ![base c + 256 * k.val, 0] inbo).view.emb j) 1).val = 0 + (j 1).val :=
    ValueKit.view_emb_slice_whole_unit_val cc0_stg1_0 _ _ inbo j 1
  have f0 : (((xSl ![xbase c + 256 * k.val, 0] inbx).view.emb j) 0).val = xbase c + 256 * k.val + (j 0).val :=
    ValueKit.view_emb_slice_whole_unit_val cc0_stg0_0 _ _ inbx j 0
  have f1 : (((xSl ![xbase c + 256 * k.val, 0] inbx).view.emb j) 1).val = 0 + (j 1).val :=
    ValueKit.view_emb_slice_whole_unit_val cc0_stg0_0 _ _ inbx j 1
  have hk := k.isLt
  show x c ((xSl ![xbase c + 256 * k.val, 0] inbx).view.emb j) = x (source (X c) _) (inHalf _)
  rw [e0, source_direct c (by omega) (by omega)]
  congr 1
  have := x_le c; have := y_le c
  refine funext ((Fin.forall_fin_two (p := fun a => _ = _)).mpr ⟨Fin.ext ?_, Fin.ext ?_⟩)
  · rw [inHalf_0, e0, f0]; unfold base xbase; omega
  · rw [inHalf_1, e1, f1]

/-- A forward lands what its target is to gather: rows `lo ≤ r < lo + 256` of what `c` received, written to the same rows
    of `Y c`, agree there with what `Y c` gathers. -/
theorem forward_lands (c : Dev nD) (k : Fin 16) (inb inb')
    (fd : (cc0_stg1_0 : Ref sig .tc).ty.Contents (Elt F)) (i : (oSl ![base (X c) + 256 * k.val, 0] inb).view.ty.Idx)
    (hi : i ∈ (oSl ![base (X c) + 256 * k.val, 0] inb).view.set) :
    (oSl ![base (X c) + 256 * k.val, 0] inb).view.write (Elt F) fd
        ((oSl ![base (X c) + 256 * k.val, 0] inb').view.read (Elt F) (gathered x c)) Finset.univ i
      = gathered x (Y c) i := by
  obtain ⟨j, -, rfl⟩ := Finset.mem_map.mp hi
  refine (View.write_emb_of_mem _ _ (Finset.mem_univ j)).trans ?_
  have hj : (j 0).val < 256 := (j 0).isLt
  have e0 : (((oSl ![base (X c) + 256 * k.val, 0] inb).view.emb j) 0).val = base (X c) + 256 * k.val + (j 0).val :=
    ValueKit.view_emb_slice_whole_unit_val cc0_stg1_0 _ _ inb j 0
  have hk := k.isLt
  show x (source c (((oSl ![base (X c) + 256 * k.val, 0] inb).view.emb j) 0).val) _ = x (source (Y c) (((oSl ![base (X c) + 256 * k.val, 0] inb).view.emb j) 0).val) _
  rw [e0, source_received c (by omega) (by omega), source_forwarded c (by omega) (by omega)]

/-- The rectangle of the result the device stores its own argument to. -/
abbrev ownR (off : Fin 2 → ℕ) (inb : ∀ a, off a + S8192x1024.size a ≤ S16384x1024.size a) : Rect S16384x1024 :=
  Rect.unit (s := S16384x1024) off S8192x1024.size inb

/-- The view that store goes through. -/
abbrev ownV (lo : ℕ) (inb : ∀ a, (![lo, 0] : Fin 2 → ℕ) a + S8192x1024.size a ≤ S16384x1024.size a) :=
  (oM : Memref sig .tc .vmem S16384x1024 .bf16).access (ownR ![lo, 0] inb)

/-- Its elements are the band of the device's own half. -/
theorem own_set (lo : ℕ) (inb) : (ownV lo inb).set = band 16384 lo (lo + 8192) := by
  show ((View.whole cc0_stg1_0).slice (Rect.unit (s := S16384x1024) ![lo, 0] S8192x1024.size inb)).set = _
  rw [View.set_slice_whole]
  ext i
  have h1 : (i 1).val < 1024 := (i 1).isLt
  rw [mem_band]
  refine Rect.mem_set_unit.trans ((Fin.forall_fin_two (p := fun a => _ ≤ _ ∧ _ < _)).trans ?_)
  show (lo ≤ (i 0).val ∧ (i 0).val < lo + 8192) ∧ (0 ≤ (i 1).val ∧ (i 1).val < 0 + 1024) ↔ _
  omega

/-- The device's own store puts there what it is to gather. -/
theorem own_lands (c : Dev nD) (inb) (fd : (cc0_stg1_0 : Ref sig .tc).ty.Contents (Elt F)) (i : (ownV (8192 * (c.val / 8)) inb).ty.Idx)
    (hi : i ∈ band 16384 (8192 * (c.val / 8)) (8192 * (c.val / 8) + 8192)) :
    (ownV (8192 * (c.val / 8)) inb).write (Elt F) fd (x c) Finset.univ i
      = gathered x c i := by
  have hb := mem_band.mp hi
  rw [← own_set _ inb] at hi
  obtain ⟨j, -, rfl⟩ := Finset.mem_map.mp hi
  refine (View.write_emb_of_mem _ _ (Finset.mem_univ j)).trans ?_
  have hj : (j 0).val < 8192 := (j 0).isLt
  have e0 : (((ownV (8192 * (c.val / 8)) inb).emb j) 0).val = 8192 * (c.val / 8) + (j 0).val :=
    ValueKit.view_emb_slice_whole_unit_val cc0_stg1_0 _ _ inb j 0
  have e1 : (((ownV (8192 * (c.val / 8)) inb).emb j) 1).val = 0 + (j 1).val :=
    ValueKit.view_emb_slice_whole_unit_val cc0_stg1_0 _ _ inb j 1
  show x c j = x (source c _) (inHalf _)
  rw [source_own c hb.1 hb.2]
  congr 1
  funext a
  apply Fin.ext
  revert a
  rw [Fin.forall_fin_two]
  refine ⟨?_, ?_⟩
  · rw [inHalf_0, e0]; omega
  · rw [inHalf_1, e1]; omega

end Cert.Gather

end
-- ==== Proof.Protocol.lean ====
/-
# The protocol of the kernel: cells, payloads, debts and levels

A device has one barrier cell, which both neighbours signal, and four families of sixteen transfer cells: the direct
copies' send and receive cells (families 0 and 1) and the forwards' (2 and 3). Every cell runs one round.

- The barrier signal of a neighbour hands over the rows of its result that the device will write: the neighbour across
  the first axis hands the quarter of the direct copies, the neighbour across the second axis that of the forwards.
- A direct copy hands its target the rows it wrote, holding what the target gathers; its send cell gives back the half
  share of the source rows. The wait for it comes before the forward of the same rows, which reads them from the result
  and gives them back on its own send cell.
-/
module

public import proofs.«01_k».proof.Proof.Mesh

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the kernel's cells, -/
abbrev UB : Type := URounds (GSem nD τ sig) Bool
/-- and with it that of the staging cells. -/
abbrev UU : Type := UR sig nD τ × UB

local notation "𝕄" => MT nD τ sig Unit (Elt F) ℕ UU ℕ

/-- Where the staging cells' ghost state sits, -/
abbrev EP : Emb (UR sig nD τ) (MT nD τ sig Unit (Elt F) ℕ UU ℕ) := embL
/-- and the kernel's. -/
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## The cells -/

/-- The name of a cell of a device: its barrier, or transfer cell `k` of family `j`. -/
abbrev CI : Type := Option (Fin 4 × Fin 16)

/-- The barrier semaphore. -/
abbrev barS : Sem sig := (SemArray.scalar (sig.barrier 0 rfl) : Sems sig S_).sem

/-- Transfer semaphore `k` of family `j`: direct send, direct receive, forward send, forward receive. -/
def xsem (j : Fin 4) (k : Fin 16) : DmaSem sig :=
  ⟨2 + 16 * j.val + k.val, by have h : sig.nDmaSem = 66 := rfl; have := j.isLt; have := k.isLt; omega⟩

/-- The semaphore of a cell, -/
def csem : CI → SemLoc sig
  | none => .reg barS
  | some (j, k) => .dma (xsem j k)

/-- and the cell. -/
def cell (c : Dev nD) (i : CI) : GSem nD τ sig := ((c : Thread nD τ), csem i)

/-- The name a semaphore is a cell under, if it is a transfer cell. -/
def slotOf : SemLoc sig → CI
  | .reg _ => none
  | .dma q => if h : 2 ≤ q.val then
      some (⟨(q.val - 2) / 16, by have := q.isLt; have h : sig.nDmaSem = 66 := rfl; omega⟩, ⟨(q.val - 2) % 16, Nat.mod_lt _ (by decide)⟩) else none

/-- A transfer semaphore's index is read back, -/
theorem slotOf_xsem (j : Fin 4) (k : Fin 16) : slotOf (.dma (xsem j k)) = some (j, k) := by
  have hk := k.isLt
  unfold slotOf xsem
  dsimp only
  rw [dif_pos (by omega)]
  congr 2 <;> (apply Fin.ext; dsimp only; omega)

/-- and so is any cell's. -/
theorem slotOf_csem (i : CI) : slotOf (csem i) = i := by
  rcases i with _ | ⟨j, k⟩
  · rfl
  · exact slotOf_xsem j k

/-- A cell names its device and its index. -/
theorem cell_inj {c c' : Dev nD} {i i' : CI} (h : cell c i = cell c' i') : c = c' ∧ i = i' :=
  ⟨congrArg (fun g : GSem nD τ sig => g.1.1) h, by
    have := congrArg slotOf (congrArg Prod.snd h)
    exact (slotOf_csem i).symm.trans (this.trans (slotOf_csem i'))⟩

/-- A transfer cell is not the barrier's. -/
theorem cell_some_ne_bar (c : Dev nD) (p : Fin 4 × Fin 16) : (cell c (some p)).2 ≠ .reg barS := fun h => by cases h

/-- The units a copy of 256 rows adds to each of its two semaphores. -/
def N : ℕ := (oSl ![0, 0] (by decide)).view.dmaCredit
/-- A chunk's credit is positive. -/
theorem N_pos : 0 < N := View.dmaCredit_pos _ (by decide)

/-! ## Contents and the rows they are held on -/

/-- The staged argument of device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The result of device `c`. -/
def full (c : Dev nD) : (cc0_stg1_0 : Ref sig .tc).ty.Contents (Elt F) := gathered (xstg m ρ) c

/-- Chunk `k` of the rows that device `d` sends directly, in the result of device `c`, at contents `f`. -/
def outPts (c d : Dev nD) (k : Fin 16) (f : (cc0_stg1_0 : Ref sig .tc).ty.Contents (Elt F)) : sProp 𝕄 :=
  ((c : Thread nD τ).loc cc0_stg1_0) ↦[band 16384 (base d + 256 * k.val) (base d + 256 * k.val + 256)]{fullShare} f

/-- The same at contents not said. -/
def outAny (c d : Dev nD) (k : Fin 16) : sProp 𝕄 := iprop(∃ f, outPts c d k f)

/-- Half a share of chunk `k` of the rows of its argument that device `c` sends. -/
def xPts (c : Dev nD) (k : Fin 16) : sProp 𝕄 :=
  ((c : Thread nD τ).loc cc0_stg0_0) ↦[band 8192 (xbase c + 256 * k.val) (xbase c + 256 * k.val + 256)]{fullShare.left} xstg m ρ c

/-- What device `c` finds in chunk `k` of the rows received directly, and of those forwarded to it. -/
def dirPts (c : Dev nD) (k : Fin 16) : sProp 𝕄 := outPts c (X c) k (full m ρ c)
/-- Chunk `k` of the rows forwarded to device `c`, landed. -/
def fwdPts (c : Dev nD) (k : Fin 16) : sProp 𝕄 := outPts c (X (Y c)) k (full m ρ c)

/-- An owned chunk of the result may be kept in an invariant, -/
instance outPts_storable (c d : Dev nD) (k f) : BI.Storable (upEmb : UEmb _ 𝕄) (outPts (F := F) c d k f) := by unfold outPts; infer_instance
/-- at unknown contents too, -/
instance outAny_storable (c d : Dev nD) (k) : BI.Storable (upEmb : UEmb _ 𝕄) (outAny (F := F) c d k) := by unfold outAny; infer_instance
/-- and so may a chunk of the argument, -/
instance xPts_storable (c : Dev nD) (k) : BI.Storable (upEmb : UEmb _ 𝕄) (xPts (F := F) m ρ c k) := by unfold xPts; infer_instance

/-! ## The schedule -/

/-- What the barrier cell of device `c` is paid: by the neighbour across the first axis (`false`) and across the second. -/
def barPay (c : Dev nD) (d : Bool) : sProp 𝕄 :=
  if d then bigSep Finset.univ (outAny (Y c) (X c)) else bigSep Finset.univ (outAny (X c) c)

/-- What transfer cell `k` of a family of device `c` is paid. -/
def xferPay (c : Dev nD) (j : Fin 4) (k : Fin 16) : sProp 𝕄 :=
  if j = 0 then xPts m ρ c k else if j = 3 then fwdPts m ρ c k else dirPts m ρ c k

/-- what a signal hands over, -/
instance barPay_storable (c : Dev nD) (d) : BI.Storable (upEmb : UEmb _ 𝕄) (barPay (F := F) c d) := by unfold barPay; split <;> infer_instance
/-- and what a copy hands over. -/
instance xferPay_storable (c : Dev nD) (j k) : BI.Storable (upEmb : UEmb _ 𝕄) (xferPay (F := F) m ρ c j k) := by
  unfold xferPay dirPts fwdPts; (repeat' split) <;> infer_instance

/-- The one round of every cell: the barrier's two duties of one unit, a transfer cell's one duty of a copy's units. -/
def sched : Rounds.Schedule (GSem nD τ sig) Bool 𝕄 where
  duties g r := if r = 0 ∧ g.1.2 = .tc then (if g.2 = .reg barS then Finset.univ else {false}) else ∅
  unitless _ := False
  amount g _ _ := if g.2 = .reg barS then 1 else N
  payload g _ d := match slotOf g.2 with
    | none => barPay g.1.1 d
    | some (j, k) => xferPay m ρ g.1.1 j k
  amount_pos g _ _ _ := by
    by_cases h : g.2 = .reg barS
    · rw [if_pos h]; exact Nat.one_pos
    · rw [if_neg h]; exact N_pos

/-- So every payload of the schedule may be kept in an invariant. -/
instance sched_payload_storable (g : GSem nD τ sig) (r : ℕ) (d : Bool) :
    BI.Storable (upEmb : UEmb _ 𝕄) ((sched (F := F) m ρ).payload g r d) := by
  show BI.Storable upEmb (match slotOf g.2 with
    | none => barPay g.1.1 d
    | some (j, k) => xferPay m ρ g.1.1 j k)
  split <;> infer_instance

section Sched
variable (c : Dev nD) (j : Fin 4) (k : Fin 16)

/-- The barrier's cell has two duties, -/
theorem duties_bar : (sched (F := F) m ρ).duties (cell c none) 0 = Finset.univ := by
  dsimp only [sched]; rw [if_pos ⟨rfl, rfl⟩]; exact if_pos rfl
/-- a transfer cell one, -/
theorem duties_xfer : (sched (F := F) m ρ).duties (cell c (some (j, k))) 0 = {false} := by
  dsimp only [sched]; rw [if_pos ⟨rfl, rfl⟩]; exact if_neg (cell_some_ne_bar _ _)
/-- and no cell has any in a later round. -/
theorem duties_later (g : GSem nD τ sig) : ∀ r, 1 ≤ r → (sched (F := F) m ρ).duties g r = ∅ :=
  fun r hr => by dsimp only [sched]; exact if_neg fun h => by omega

/-- A barrier's duty is one unit, -/
theorem amount_bar (d : Bool) : (sched (F := F) m ρ).amount (cell c none) 0 d = 1 := by dsimp only [sched]; exact if_pos rfl
/-- a transfer's a chunk's credit. -/
theorem amount_xfer (d : Bool) : (sched (F := F) m ρ).amount (cell c (some (j, k))) 0 d = N := by
  dsimp only [sched]; exact if_neg (cell_some_ne_bar _ _)

/-- The barrier expects two units, -/
theorem expect_bar : (sched (F := F) m ρ).expect (cell c none) 0 = 2 := by
  unfold Schedule.expect Schedule.amountOf
  rw [duties_bar, Finset.sum_congr rfl fun d _ => amount_bar m ρ c d, Finset.sum_const, Finset.card_univ, Fintype.card_bool, smul_eq_mul]
/-- a transfer cell a chunk's credit. -/
theorem expect_xfer : (sched (F := F) m ρ).expect (cell c (some (j, k))) 0 = N := by
  unfold Schedule.expect Schedule.amountOf; rw [duties_xfer, Finset.sum_singleton, amount_xfer]

/-- What a barrier's duty hands over, -/
theorem payload_bar (d : Bool) : (sched (F := F) m ρ).payload (cell c none) 0 d = barPay c d := rfl
/-- and what a transfer's does. -/
theorem payload_xfer (d : Bool) : (sched (F := F) m ρ).payload (cell c (some (j, k))) 0 d = xferPay m ρ c j k := by
  dsimp only [sched, cell, csem]; rw [slotOf_xsem]

/-- The payloads of the barrier's round. -/
theorem rest_bar : bigSep ((sched (F := F) m ρ).duties (cell c none) 0 \ ∅) (fun d => (sched (F := F) m ρ).payload (cell c none) 0 d)
    = iprop(bigSep Finset.univ (outAny (X c) c) ∗ bigSep Finset.univ (outAny (Y c) (X c))) := by
  rw [Finset.sdiff_empty, duties_bar, bigSep_univ_eq_bigSepL [false, true] (by decide) (by decide), bigSepL_cons_cons, bigSepL_singleton]
  rfl
/-- The payload of a transfer cell's round. -/
theorem rest_xfer : bigSep ((sched (F := F) m ρ).duties (cell c (some (j, k))) 0 \ ∅) (fun d => (sched (F := F) m ρ).payload (cell c (some (j, k))) 0 d)
    = xferPay m ρ c j k := by
  rw [Finset.sdiff_empty, duties_xfer, bigSep_singleton, payload_xfer]

end Sched

/-! ## Counting through the sixteen copies -/

/-- The copies from the `i`-th on, and those before it. -/
def geq (i : ℕ) : Finset (Fin 16) := Finset.univ.filter fun k => i ≤ k.val
/-- The chunks before the `i`-th. -/
def ltn (i : ℕ) : Finset (Fin 16) := Finset.univ.filter fun k => k.val < i

/-- A chunk is still to come when its number is at least `i`, -/
theorem mem_geq {i : ℕ} {k : Fin 16} : k ∈ geq i ↔ i ≤ k.val := by
  unfold geq; rw [Finset.mem_filter]; exact ⟨fun h => h.2, fun h => ⟨Finset.mem_univ _, h⟩⟩
/-- and past when it is less. -/
theorem mem_ltn {i : ℕ} {k : Fin 16} : k ∈ ltn i ↔ k.val < i := by
  unfold ltn; rw [Finset.mem_filter]; exact ⟨fun h => h.2, fun h => ⟨Finset.mem_univ _, h⟩⟩

/-- At the start all the chunks are still to come, -/
theorem geq_zero : geq 0 = Finset.univ := Finset.ext fun k => by rw [mem_geq]; exact ⟨fun _ => Finset.mem_univ _, fun _ => Nat.zero_le _⟩
/-- at the end none; -/
theorem geq_end : geq 16 = ∅ := Finset.ext fun k => by
  rw [mem_geq]; have := k.isLt; exact ⟨fun h => by omega, fun h => absurd h (Finset.notMem_empty _)⟩
/-- at the start none is past, -/
theorem ltn_zero : ltn 0 = ∅ := Finset.ext fun k => by
  rw [mem_ltn]; exact ⟨fun h => by omega, fun h => absurd h (Finset.notMem_empty _)⟩
/-- at the end all are. -/
theorem ltn_end : ltn 16 = Finset.univ := Finset.ext fun k => by rw [mem_ltn]; exact ⟨fun _ => Finset.mem_univ _, fun _ => k.isLt⟩

/-- The `k`-th chunk is not among those after it, -/
theorem not_mem_geq (k : Fin 16) : k ∉ geq (k.val + 1) := fun h => by rw [mem_geq] at h; omega
/-- nor among those before it. -/
theorem not_mem_ltn (k : Fin 16) : k ∉ ltn k.val := fun h => by rw [mem_ltn] at h; omega
/-- Chunk `k` is the first still to come at step `k`, -/
theorem geq_step (k : Fin 16) : geq k.val = insert k (geq (k.val + 1)) := Finset.ext fun i => by
  rw [Finset.mem_insert, mem_geq, mem_geq, Fin.ext_iff]; omega
/-- and the last past after it. -/
theorem ltn_step (k : Fin 16) : ltn (k.val + 1) = insert k (ltn k.val) := Finset.ext fun i => by
  rw [Finset.mem_insert, mem_ltn, mem_ltn, Fin.ext_iff]; omega

/-- Taking the next one from those to come, -/
theorem bigSep_geq (k : Fin 16) (Φ : Fin 16 → sProp 𝕄) : bigSep (geq k.val) Φ = iprop(Φ k ∗ bigSep (geq (k.val + 1)) Φ) := by
  rw [geq_step]; exact bigSep_insert (not_mem_geq k)
/-- and putting it with those done. -/
theorem bigSep_ltn (k : Fin 16) (Φ : Fin 16 → sProp 𝕄) : bigSep (ltn (k.val + 1)) Φ = iprop(Φ k ∗ bigSep (ltn k.val) Φ) := by
  rw [ltn_step]; exact bigSep_insert (not_mem_ltn k)

/-! ## Debts and levels -/

/-- What device `d`'s direct copies, and its forwards, from the `i`-th on owe the receive cells of their targets. -/
def dirOwe (d : Dev nD) (i : ℕ) : CellTallies nD τ sig Unit := ∑ k ∈ geq i, tallyAt (cell (X d) (some (1, k))) () N
/-- What device `d` owes for the forwards from the `i`-th on. -/
def fwdOwe (d : Dev nD) (i : ℕ) : CellTallies nD τ sig Unit := ∑ k ∈ geq i, tallyAt (cell (Y d) (some (3, k))) () N

/-- Sending chunk `k` pays its part of the debt, -/
theorem dirOwe_step (d : Dev nD) (k : Fin 16) : dirOwe d k.val = dirOwe d (k.val + 1) + tallyAt (cell (X d) (some (1, k))) () N := by
  unfold dirOwe; rw [geq_step, Finset.sum_insert (not_mem_geq k), add_comm]
/-- and so does forwarding it. -/
theorem fwdOwe_step (d : Dev nD) (k : Fin 16) : fwdOwe d k.val = fwdOwe d (k.val + 1) + tallyAt (cell (Y d) (some (3, k))) () N := by
  unfold fwdOwe; rw [geq_step, Finset.sum_insert (not_mem_geq k), add_comm]
/-- After the last chunk nothing is owed for the direct copies, -/
theorem dirOwe_end (d : Dev nD) : dirOwe d 16 = 0 := by unfold dirOwe; rw [geq_end, Finset.sum_empty]
/-- nor for the forwards. -/
theorem fwdOwe_end (d : Dev nD) : fwdOwe d 16 = 0 := by unfold fwdOwe; rw [geq_end, Finset.sum_empty]

/-- What a device owes after its two signals, after the first of them, and at launch. -/
def O₂ (d : Dev nD) : CellTallies nD τ sig Unit := fwdOwe d 0 + dirOwe d 0
/-- Before the second signal, -/
def O₁ (d : Dev nD) : CellTallies nD τ sig Unit := O₂ d + tallyAt (cell (Y d) none) () 1
/-- and before the first: the debt at launch. -/
def O₀ (d : Dev nD) : CellTallies nD τ sig Unit := O₁ d + tallyAt (cell (X d) none) () 1

/-- What a sum of debts of sixteen copies is at a cell. -/
theorem sum_tally_apply (S : Finset (Fin 16)) (f : Fin 16 → GSem nD τ sig) (n : ℕ) (g : GSem nD τ sig) (u : Unit) :
    (∑ k ∈ S, (tallyAt (f k) () n : CellTallies nD τ sig Unit)) g u = ∑ k ∈ S, if g = f k ∧ u = () then n else 0 := by
  rw [Finset.sum_apply, Finsupp.finset_sum_apply]
  exact Finset.sum_congr rfl fun k _ => tallyAt_apply ..

/-- A debt stands at one of the cells it names. -/
theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
/-- A sum of debts is positive only at a cell one of them is at. -/
theorem sum_tally_pos {S : Finset (Fin 16)} {f : Fin 16 → GSem nD τ sig} {n : ℕ} {g : GSem nD τ sig} {u : Unit}
    (h : 0 < (∑ k ∈ S, (tallyAt (f k) () n : CellTallies nD τ sig Unit)) g u) : ∃ k, g = f k := by
  rw [sum_tally_apply] at h
  obtain ⟨k, _, hk⟩ := Finset.exists_ne_zero_of_sum_ne_zero (Nat.pos_iff_ne_zero.mp h)
  refine ⟨k, ?_⟩
  by_contra hn
  exact hk (if_neg fun h' => hn h'.1)

/-- Every TensorCore cell has the one tally index. -/
def L (g : GSem nD τ sig) : Finset Unit := if g.1.2 = .tc then {()} else ∅

/-- Barrier cells at 1, direct receive cells at 2, forward receive cells at 3, all else at 0. -/
def lv (g : GSem nD τ sig) (_ : Unit) : ℕ :=
  if g.2 = .reg barS then 1 else match slotOf g.2 with
    | none => 0
    | some (j, _) => if j = 1 then 2 else if j = 3 then 3 else 0

/-- The barrier's level, -/
theorem lv_bar (c : Dev nD) (u : Unit) : lv (cell c none) u = 1 := by unfold lv; exact if_pos rfl
/-- and the transfers'. -/
theorem lv_xfer (c : Dev nD) (j : Fin 4) (k : Fin 16) (u : Unit) : lv (cell c (some (j, k))) u = if j = 1 then 2 else if j = 3 then 3 else 0 := by
  unfold lv; rw [if_neg (cell_some_ne_bar _ _)]; dsimp only [cell, csem]; rw [slotOf_xsem]

/-- No other processor's cell has an index, -/
theorem L_of_ne (g : GSem nD τ sig) (h : g.1.2 ≠ .tc) : L g = ∅ := if_neg h
/-- a TensorCore's has one, -/
theorem L_tc (c : Dev nD) (sm : SemLoc sig) : L ((c : Thread nD τ), sm) = {()} := if_pos rfl
/-- so every cell has it. -/
theorem L_cell (c : Dev nD) (i : CI) (u : Unit) : u ∈ L (cell c i) := by unfold cell; rw [L_tc]; exact Finset.mem_singleton_self _

/-- A device may wait at a cell whose level is at most `b` while it owes only cells above `b`. -/
theorem mayWait_cut (c : Dev nD) (sm : SemLoc sig) (O : CellTallies nD τ sig Unit) (b : ℕ) (h1 : lv ((c : Thread nD τ), sm) () ≤ b)
    (h2 : ∀ g u, 0 < O g u → u ∈ L g ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (h2 g u hg).1) (fun p hp => by rw [Finset.mem_singleton.mp hp]; exact h1) (fun g u hg => (h2 g u hg).2)

/-- The forwards' debts are above level 2, -/
theorem fwdOwe_above (d : Dev nD) (i : ℕ) (g : GSem nD τ sig) (u : Unit) (h : 0 < fwdOwe d i g u) : u ∈ L g ∧ 2 < lv g u := by
  obtain ⟨k, rfl⟩ := sum_tally_pos h
  exact ⟨L_cell _ _ _, by rw [lv_xfer]; decide⟩
/-- the copies' debts above level 1, -/
theorem O₂_above (d : Dev nD) (g : GSem nD τ sig) (u : Unit) (h : 0 < O₂ d g u) : u ∈ L g ∧ 1 < lv g u := by
  unfold O₂ at h
  rw [Pi.add_apply, Finsupp.add_apply] at h
  by_cases hf : 0 < fwdOwe d 0 g u
  · exact ⟨(fwdOwe_above d 0 g u hf).1, Nat.lt_of_succ_lt (fwdOwe_above d 0 g u hf).2⟩
  · obtain ⟨k, rfl⟩ := sum_tally_pos (show 0 < dirOwe d 0 g u by omega)
    exact ⟨L_cell _ _ _, by rw [lv_xfer]; decide⟩
/-- and all debts above level 0. -/
theorem O₀_above (d : Dev nD) (g : GSem nD τ sig) (u : Unit) (h : 0 < O₀ d g u) : u ∈ L g ∧ 0 < lv g u := by
  unfold O₀ O₁ at h
  rw [Pi.add_apply, Finsupp.add_apply, Pi.add_apply, Finsupp.add_apply] at h
  by_cases h2 : 0 < O₂ d g u
  · exact ⟨(O₂_above d g u h2).1, Nat.lt_of_succ_lt (O₂_above d g u h2).2⟩
  · by_cases hy : 0 < (tallyAt (cell (Y d) none) () 1 : CellTallies nD τ sig Unit) g u
    · rw [tally_pos hy]; exact ⟨L_cell _ _ _, by rw [lv_bar]; decide⟩
    · rw [tally_pos (show 0 < (tallyAt (cell (X d) none) () 1 : CellTallies nD τ sig Unit) g u by omega)]
      exact ⟨L_cell _ _ _, by rw [lv_bar]; decide⟩

/-- The barrier may be waited for while the transfers are owed, -/
theorem mayWait_bar (c : Dev nD) : (levAts L lv : sProp 𝕄) ⊢ MayWait (c : Thread nD τ) (csem none) () (O₂ c) :=
  mayWait_cut c _ _ 1 (le_of_eq (lv_bar c ())) (O₂_above c)
/-- and a direct arrival while forwards are owed. -/
theorem mayWait_direct (c : Dev nD) (k : Fin 16) (i : ℕ) : (levAts L lv : sProp 𝕄) ⊢ MayWait (c : Thread nD τ) (csem (some (1, k))) () (fwdOwe c i) :=
  mayWait_cut c _ _ 2 (le_of_eq (lv_xfer c 1 k ())) (fwdOwe_above c i)
/-- The staging copies' waits, at launch's debts or none. -/
theorem mayWait_stage (c : Dev nD) (q : DmaSem sig) (hq : slotOf (.dma q) = none) (O : CellTallies nD τ sig Unit) (hO : O = O₀ c ∨ O = 0) :
    (levAts L lv : sProp 𝕄) ⊢ MayWait (c : Thread nD τ) (.dma q) () O := by
  rcases hO with rfl | rfl
  · refine mayWait_cut c _ _ 0 (le_of_eq ?_) (O₀_above c)
    unfold lv; rw [if_neg (fun h => by cases h)]; dsimp only; rw [hq]
  · rw [MayWait_zero]; iintro -; iempintro

/-! ## The ghost state of a device -/

/-- Every cell's invariant under the names `K`, and that every cell is at its round. -/
def records (K : Dev nD × CI → ℕ) : sProp 𝕄 :=
  iprop((bigSep Finset.univ fun ck : Dev nD × CI => cellInv ER (sched m ρ) (K ck) (cell ck.1 ck.2))
    ∗ bigSep Finset.univ fun ck : Dev nD × CI => reached ER (cell ck.1 ck.2) 0)

/-- The records may be used again and again. -/
instance records_persistent (K : Dev nD × CI → ℕ) : BI.Persistent (records m ρ K) := by unfold records; infer_instance

/-- Every cell's invariant is recorded, -/
theorem inv_at (K : Dev nD × CI → ℕ) (c : Dev nD) (i : CI) : records m ρ K ⊢ cellInv ER (sched m ρ) (K (c, i)) (cell c i) := by
  unfold records; exact sep_elim_left.trans (bigSep_elim (Finset.mem_univ (c, i)))
/-- and that its first round is reached. -/
theorem reached_at (K : Dev nD × CI → ℕ) (c : Dev nD) (i : CI) : records m ρ K ⊢ reached ER (cell c i) 0 := by
  unfold records; exact sep_elim_right.trans (bigSep_elim (Finset.mem_univ (c, i)))

/-- The tokens of the duties device `c` pays: both neighbours' barriers; per copy, its two send cells and the receive
    cells of the two targets. -/
def payToks (c : Dev nD) : sProp 𝕄 :=
  iprop(dutyTok ER (cell (X c) none) 0 false ∗ dutyTok ER (cell (Y c) none) 0 true
    ∗ (bigSep Finset.univ fun k => dutyTok ER (cell c (some (0, k))) 0 false)
    ∗ (bigSep Finset.univ fun k => dutyTok ER (cell (X c) (some (1, k))) 0 false)
    ∗ (bigSep Finset.univ fun k => dutyTok ER (cell c (some (2, k))) 0 false)
    ∗ (bigSep Finset.univ fun k => dutyTok ER (cell (Y c) (some (3, k))) 0 false))

/-- The positions of device `c` at its own cells, at round `r`. -/
def seats (c : Dev nD) (r : ℕ) : sProp 𝕄 :=
  iprop(atPos ER (cell c none) r ∅ 0 ∗ (bigSep Finset.univ fun k => atPos ER (cell c (some (0, k))) r ∅ 0)
    ∗ (bigSep Finset.univ fun k => atPos ER (cell c (some (1, k))) r ∅ 0)
    ∗ (bigSep Finset.univ fun k => atPos ER (cell c (some (2, k))) r ∅ 0)
    ∗ (bigSep Finset.univ fun k => atPos ER (cell c (some (3, k))) r ∅ 0))

/-- The credit of what others owe device `c`. -/
def credits (c : Dev nD) : sProp 𝕄 :=
  iprop(cred (tallyAt (cell c none) () 2) ∗ (bigSep Finset.univ fun k => cred (tallyAt (cell c (some (1, k))) () N))
    ∗ (bigSep Finset.univ fun k => cred (tallyAt (cell c (some (3, k))) () N)))

/-- The ghost state device `c` starts from. -/
def ghost (K : Dev nD × CI → ℕ) (c : Dev nD) : sProp 𝕄 := iprop(records m ρ K ∗ seats c 0 ∗ payToks c)

/-- What device `c`'s body starts from. -/
def start (c : Dev nD) : sProp 𝕄 := iprop((∃ K, ghost m ρ K c) ∗ credits c ∗ levAts L lv)

/-- The counters at zero of all of device `c`'s own cells; -/
def zeros (c : Dev nD) : sProp 𝕄 :=
  iprop((bigSep Finset.univ fun k => semVal (cell c (some (0, k))) 0) ∗ (bigSep Finset.univ fun k => semVal (cell c (some (1, k))) 0)
    ∗ (bigSep Finset.univ fun k => semVal (cell c (some (2, k))) 0) ∗ (bigSep Finset.univ fun k => semVal (cell c (some (3, k))) 0))

/-- what the body ends with: those and the barrier's. -/
def finish (c : Dev nD) : sProp 𝕄 := iprop(zeros c ∗ semVal (cell c none) 0)

end Cert.Gather

end
-- ==== Proof.Loops.lean ====
/-
# The kernel as three loops

The printed kernel spells its sixteen copies, its sixteen forwards and its sixteen triples of waits out one by one. Here
each family is one operation of a copy's number, and the kernel is shown to be the three loops over it.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-- Programs of the kernel. -/
abbrev Pr (F : FTy → Type) : Type 1 := Prog (TpuEff nD τ sig (Elt F) Λ₀ .tc) PUnit

/-- The last `n` of sixteen turns of `f`, then `rest`. -/
def turns (f : Fin 16 → Pr F → Pr F) (rest : Pr F) : (n : ℕ) → n ≤ 16 → Pr F
  | 0, _ => rest
  | n + 1, h => f ⟨16 - (n + 1), by omega⟩ (turns f rest n (by omega))

/-- The word copy `k`'s row offset is computed from. -/
abbrev wd (k : Fin 16) : BitVec 32 := BitVec.ofNat 32 (256 * k.val)

/-- The rows copy `k` reads, -/
abbrev srcR (c : Dev nD) (k : Fin 16) := xSl (k0_off2 c (wd k)) (k0_off2_inb c k)
/-- the rows it writes on the target, -/
abbrev dstR (c : Dev nD) (k : Fin 16) := oSl (k0_off1 c (wd k)) (k0_off1_inb c k)
/-- and the rows forward `k` reads and writes. -/
abbrev fwdR (c : Dev nD) (k : Fin 16) := oSl (k0_off4 c (wd k)) (k0_off4_inb c k)

/-- The slices are whole words: the chunk sent, -/
theorem srcW (c : Dev nD) (k : Fin 16) : (srcR c k).view.WordExact := (Memref.isWhole_whole cc0_stg0_0).wordExact_slice rfl _ (k0_off2_wordsbf16 c k)
/-- where it lands, -/
theorem dstW (c : Dev nD) (k : Fin 16) : (dstR c k).view.WordExact := (Memref.isWhole_whole cc0_stg1_0).wordExact_slice rfl _ (k0_off1_wordsbf16 c k)
/-- what is forwarded. -/
theorem fwdW (c : Dev nD) (k : Fin 16) : (fwdR c k).view.WordExact := (Memref.isWhole_whole cc0_stg1_0).wordExact_slice rfl _ (k0_off4_wordsbf16 c k)

/-- The neighbour the direct copies address, as the kernel computes it, -/
abbrev nX (c : Dev nD) : Dev nD := ⟨k0_dev3 c, k0_dev3_lt c⟩
/-- and the neighbour the forwards address. -/
abbrev nY (c : Dev nD) : Dev nD := ⟨k0_dev19 c, k0_dev19_lt c⟩

/-- Copy `k` to the neighbour across the first axis. -/
def sendTurn (c : Dev nD) (k : Fin 16) (rest : Pr F) : Pr F :=
  Prog.op (.enqueueDma (srcR c k) (.remote (Dev.tc (nX c)) (dstR c k) (.dma (xsem 0 k))) (.dma (xsem 1 k)) (srcW c k) (dstW c k)
    ⟨⟨rfl, Or.inl rfl⟩, trivial⟩) fun _ => rest

/-- The wait for copy `k` to arrive, and forward `k` to the neighbour across the second axis. -/
def forwardTurn (c : Dev nD) (k : Fin 16) (rest : Pr F) : Pr F :=
  Prog.op (.waitDma2 (xsem 1 k) (srcR c k) (dstR c k) (srcW c k) (dstW c k)) fun _ =>
  Prog.op (.enqueueDma (fwdR c k) (.remote (Dev.tc (nY c)) (fwdR c k) (.dma (xsem 2 k))) (.dma (xsem 3 k)) (fwdW c k) (fwdW c k)
    ⟨⟨rfl, Or.inl rfl⟩, trivial⟩) fun _ => rest

/-- The waits for copy `k` and forward `k` to have left, and for the forward to device `c` to have arrived. -/
def drainTurn (c : Dev nD) (k : Fin 16) (rest : Pr F) : Pr F :=
  Prog.op (.waitDma2 (xsem 0 k) (dstR c k) (srcR c k) (dstW c k) (srcW c k)) fun _ =>
  Prog.op (.waitDma2 (xsem 2 k) (fwdR c k) (fwdR c k) (fwdW c k) (fwdW c k)) fun _ =>
  Prog.op (.waitDma2 (xsem 3 k) (fwdR c k) (fwdR c k) (fwdW c k) (fwdW c k)) fun _ => rest

/-- The rectangle of the argument read whole, and that of the result stored to. -/
abbrev xR : Rect S8192x1024 := Rect.unit (s := S8192x1024) ![0, 0] S8192x1024.size inb_S8192x1024_S8192x1024_0_0
/-- The rectangle the device stores its own argument to. -/
abbrev oR (c : Dev nD) : Rect S16384x1024 := ownR (k0_off3 c) (k0_off3_inb c)

/-- The device's own argument stored to its half of the result; the rows stored to are read first, for nothing. -/
def ownTurn (c : Dev nD) (rest : Pr F) : Pr F :=
  Prog.op (.load xM xR.toLoadRect (View.loadsAt_vmem h_S8192x1024)) fun v =>
  Prog.op (.load oM (oR c).toLoadRect (View.loadsAt_vmem h_S8192x1024)) fun _ =>
  Prog.op (.store oM (oR c) (k0_pay1 v) Finset.univ
    (View.stores_vmem h_S8192x1024 ((Memref.isWhole_whole cc0_stg1_0).storeExact_slice rfl _ (k0_off3_packedbf16 c)) (fun _ => rfl)) (.inl rfl)) fun _ => rest

/-- All that follows the barrier. -/
def afterBarrier (c : Dev nD) : Pr F :=
  turns (sendTurn c) (ownTurn c (turns (forwardTurn c) (turns (drainTurn c) (pure ⟨⟩) 16 le_rfl) 16 le_rfl)) 16 le_rfl

/-- The kernel, as three loops. -/
def gatherProg : Pr F := do
  let c : Dev nD ← Prog.lift .deviceId
  semSignalWord (⟨k0_dev1 c, k0_dev1_lt c⟩ : Dev nD) barS 1#32
  semSignalWord (⟨k0_dev2 c, k0_dev2_lt c⟩ : Dev nD) barS 1#32
  semWaitWord barS 2#32
  afterBarrier c

set_option maxRecDepth 65536 in
/-- The printed kernel is the three loops. -/
theorem body_eq_loops :
    cc0_body (F := F) (Memref.whole cc0_stg0_0) (Memref.isWhole_whole _) (Memref.whole cc0_stg1_0) (Memref.isWhole_whole _)
      cc0_scratch0 cc0_scratch1 cc0_scratch2 cc0_scratch3 = gatherProg := by
  rw [cc0_body_eq_skeleton]
  rfl

end Cert.Gather

end
-- ==== Proof.Steps.lean ====
/-
# One turn of each loop

For each of the three loops: what a device holds for the turns to come and for the turns done, and the rule of one turn,
for every copy and every device at once.
-/
module

public import proofs.«01_k».proof.Proof.Loops

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop needs a measure. -/
abbrev 𝒱₀ : Variants := Variants.none

/-- The weakest precondition of a program of device `c`. -/
abbrev WP (c : Dev nD) (p : Pr F) (Q : PUnit → sProp 𝕄) : sProp 𝕄 :=
  wp frame (wpE (defs₀ (F := F)) 𝒱₀ (c : Thread nD τ) none) Set.univ p Q

/-! ## The offsets and the targets in closed form -/

/-- The direct copies go across the first axis, -/
theorem nX_eq (c : Dev nD) : nX c = X c := Fin.ext ((k0_dev3_eq c).trans (X_val c))
/-- the forwards across the second. -/
theorem nY_eq (c : Dev nD) : nY c = Y c := Fin.ext ((k0_dev19_eq c).trans (Y_val c))
/-- Where chunk `k` starts in the argument, -/
theorem src_off (c : Dev nD) (k : Fin 16) : k0_off2 c (wd k) = ![xbase c + 256 * k.val, 0] := k0_off2_eq c k
/-- in the result it is sent to, -/
theorem dst_off (c : Dev nD) (k : Fin 16) : k0_off1 c (wd k) = ![base c + 256 * k.val, 0] := k0_off1_eq c k
/-- and in the result when it is forwarded. -/
theorem fwd_off (c : Dev nD) (k : Fin 16) : k0_off4 c (wd k) = ![base (X c) + 256 * k.val, 0] := by
  rw [k0_off4_eq c k]
  have e : (4096 * ((c.val / 4) % 2) + 256 * k.val + 8192) - 8192 * (c.val / 8) = base (X c) + 256 * k.val := by
    have := x_le c; unfold base; rw [X_x, X_y]; omega
  rw [e]

/-- The elements the copies read and write. -/
theorem xSl_set_of {off : Fin 2 → ℕ} {lo : ℕ} (h : off = ![lo, 0]) (inb) : (xSl off inb).view.set = band 8192 lo (lo + 256) := by
  subst h; exact xSl_set _ _
/-- The elements of a slice of the result whose offset is known only as equal to a row. -/
theorem oSl_set_of {off : Fin 2 → ℕ} {lo : ℕ} (h : off = ![lo, 0]) (inb) : (oSl off inb).view.set = band 16384 lo (lo + 256) := by
  subst h; exact oSl_set _ _
/-- The rows of the chunk sent, -/
theorem srcR_set (c : Dev nD) (k : Fin 16) :
    (srcR c k).view.set = band 8192 (xbase c + 256 * k.val) (xbase c + 256 * k.val + 256) := xSl_set_of (src_off c k) _
/-- of where it lands, -/
theorem dstR_set (c : Dev nD) (k : Fin 16) :
    (dstR c k).view.set = band 16384 (base c + 256 * k.val) (base c + 256 * k.val + 256) := oSl_set_of (dst_off c k) _
/-- and of the chunk forwarded. -/
theorem fwdR_set (c : Dev nD) (k : Fin 16) :
    (fwdR c k).view.set = band 16384 (base (X c) + 256 * k.val) (base (X c) + 256 * k.val + 256) := oSl_set_of (fwd_off c k) _

/-- Every copy adds the same number of units. -/
theorem amount_dst (c : Dev nD) (k : Fin 16) : (dstR c k).view.dmaCredit = N := rfl
/-- A forward credits one chunk, -/
theorem amount_fwd (c : Dev nD) (k : Fin 16) : (fwdR c k).view.dmaCredit = N := rfl
/-- and so does a direct copy. -/
theorem amount_src (c : Dev nD) (k : Fin 16) : (srcR c k).view.dmaCredit = N := rfl

/-- What copy `k` writes is what its target gathers there. -/
theorem sent_of {offx offo : Fin 2 → ℕ} (c : Dev nD) (k : Fin 16) (hx : offx = ![xbase c + 256 * k.val, 0]) (ho : offo = ![base c + 256 * k.val, 0])
    (inbx inbo) (fd : (cc0_stg1_0 : Ref sig .tc).ty.Contents (Elt F)) (i : (oSl offo inbo).view.ty.Idx) (hi : i ∈ (oSl offo inbo).view.set) :
    (oSl offo inbo).view.write (Elt F) fd ((xSl offx inbx).view.read (Elt F) (xstg m ρ c)) Finset.univ i = full m ρ (X c) i := by
  subst hx; subst ho; exact direct_lands (xstg m ρ) c k _ _ fd i hi
/-- A direct copy lands what its target is to gather, -/
theorem sent (c : Dev nD) (k : Fin 16) (fd : (cc0_stg1_0 : Ref sig .tc).ty.Contents (Elt F)) (i : (dstR c k).view.ty.Idx) (hi : i ∈ (dstR c k).view.set) :
    (dstR c k).view.write (Elt F) fd ((srcR c k).view.read (Elt F) (xstg m ρ c)) Finset.univ i = full m ρ (X c) i :=
  sent_of m ρ c k (src_off c k) (dst_off c k) _ _ fd i hi

/-- What forward `k` writes is what its target gathers there. -/
theorem forwarded_of {off : Fin 2 → ℕ} (c : Dev nD) (k : Fin 16) (h : off = ![base (X c) + 256 * k.val, 0]) (inb)
    (fd : (cc0_stg1_0 : Ref sig .tc).ty.Contents (Elt F)) (i : (oSl off inb).view.ty.Idx) (hi : i ∈ (oSl off inb).view.set) :
    (oSl off inb).view.write (Elt F) fd ((oSl off inb).view.read (Elt F) (full m ρ c)) Finset.univ i = full m ρ (Y c) i := by
  subst h; exact forward_lands (xstg m ρ) c k _ _ fd i hi
/-- and so does a forward. -/
theorem forwarded (c : Dev nD) (k : Fin 16) (fd : (cc0_stg1_0 : Ref sig .tc).ty.Contents (Elt F)) (i : (fwdR c k).view.ty.Idx) (hi : i ∈ (fwdR c k).view.set) :
    (fwdR c k).view.write (Elt F) fd ((fwdR c k).view.read (Elt F) (full m ρ c)) Finset.univ i = full m ρ (Y c) i :=
  forwarded_of m ρ c k (fwd_off c k) _ fd i hi

/-! ## Loops -/

/-- A loop's rule from one turn's: `I i` is what holds before turn `i`, `R` a fact that holds throughout. -/
theorem turns_rule (c : Dev nD) (R : sProp 𝕄) [BI.Persistent R] (f : Fin 16 → Pr F → Pr F) (I : ℕ → sProp 𝕄)
    (turn : ∀ (k : Fin 16) (rest : Pr F) (Q : PUnit → sProp 𝕄), iprop(R ∗ I k.val) ⊢ iprop((I (k.val + 1) -∗ WP c rest Q) -∗ WP c (f k rest) Q))
    (rest : Pr F) (Q : PUnit → sProp 𝕄) :
    ∀ (n : ℕ) (h : n ≤ 16), iprop(R ∗ I (16 - n)) ⊢ iprop((I 16 -∗ WP c rest Q) -∗ WP c (turns f rest n h) Q) := by
  intro n
  induction n with
  | zero =>
    intro h
    unfold turns
    iintro ⟨-, H⟩ Hk
    iapply Hk
    iexact H
  | succ n ih =>
    intro h
    unfold turns
    have hk : 16 - (n + 1) < 16 := by omega
    iintro ⟨#HR, H⟩ Hk
    iapply (turn ⟨16 - (n + 1), hk⟩ (turns f rest n _) Q) $$ [H]
    · isplitr; · iexact HR
      iexact H
    iintro H
    iapply (ih _) $$ [H]
    · isplitr; · iexact HR
      rw [show 16 - n = 16 - (n + 1) + 1 by omega]
      iexact H
    iexact Hk

/-! ## The direct copies -/

/-- For a direct copy to come: half a share of its source rows, the target's rows, the two duties it pays. -/
def sendTodo (c : Dev nD) (k : Fin 16) : sProp 𝕄 :=
  iprop(xPts m ρ c k ∗ outAny (X c) c k ∗ dutyTok ER (cell c (some (0, k))) 0 false ∗ dutyTok ER (cell (X c) (some (1, k))) 0 false)
/-- For one on its way: the credit at its send cell. -/
def sendDone (c : Dev nD) (k : Fin 16) : sProp 𝕄 := cred (tallyAt (cell c (some (0, k))) () N)

/-- Device `c` owes `O`, whatever it has waited for so far. -/
def owing (c : Dev nD) (O : CellTallies nD τ sig Unit) : sProp 𝕄 := iprop(∃ W, owes (c : Thread nD τ) O W)

/-- Before direct copy `i`. -/
def sendInv (c : Dev nD) (i : ℕ) : sProp 𝕄 :=
  iprop(bigSep (geq i) (sendTodo m ρ c) ∗ bigSep (ltn i) (sendDone (F := F) c) ∗ owing c (fwdOwe c 0 + dirOwe c i))

/-- What holds throughout: the cells' invariants and marks, and the levels. -/
def ctx (K : Dev nD × CI → ℕ) : sProp 𝕄 := iprop(records m ρ K ∗ levAts L lv)
/-- The context may be used again and again. -/
instance ctx_persistent (K : Dev nD × CI → ℕ) : BI.Persistent (ctx m ρ K) := by unfold ctx; infer_instance

variable (K : Dev nD × CI → ℕ)

/-- It holds every cell's invariant, -/
theorem ctx_inv (c : Dev nD) (i : CI) : ctx m ρ K ⊢ cellInv ER (sched m ρ) (K (c, i)) (cell c i) := by
  unfold ctx; exact sep_elim_left.trans (inv_at m ρ K c i)
/-- and that every cell's first round is reached. -/
theorem ctx_reached (c : Dev nD) (i : CI) : ctx m ρ K ⊢ reached ER (cell c i) 0 := by
  unfold ctx; exact sep_elim_left.trans (reached_at m ρ K c i)

/-- The held rows in the words of the copies' rules. -/
theorem xPts_eq (c : Dev nD) (k : Fin 16) :
    xPts m ρ c k = ((srcR c k).view.loc (c : Thread nD τ) ↦[(srcR c k).view.set]{fullShare.left} xstg m ρ c) := by
  rw [srcR_set]; rfl
/-- A chunk of the result, held as the slice a direct copy lands in, -/
theorem outPts_dst (c d : Dev nD) (k : Fin 16) (f) :
    (outPts d c k f : sProp 𝕄) = ((dstR c k).view.loc (d : Thread nD τ) ↦[(dstR c k).view.set]{fullShare} f) := by
  rw [dstR_set]; rfl
/-- and as the slice a forward reads and lands in. -/
theorem outPts_fwd (c d : Dev nD) (k : Fin 16) (f) :
    (outPts d (X c) k f : sProp 𝕄) = ((fwdR c k).view.loc (d : Thread nD τ) ↦[(fwdR c k).view.set]{fullShare} f) := by
  rw [fwdR_set]; rfl

/-- A cell as the rules spell it. -/
theorem cell_eq (c : Dev nD) (j : Fin 4) (k : Fin 16) : (((c : Thread nD τ), SemLoc.dma (xsem j k)) : GSem nD τ sig) = cell c (some (j, k)) := rfl

/-- The send rule at direct copy `k`, addressed to `n`, the neighbour across the first axis. -/
theorem send_rule (c n : Dev nD) (hn : n = X c) (k : Fin 16)
    {hsc : (dstR c k : Memref sig (Dev.tc n : Thread nD τ).2.kind .vmem S256x1024 .bf16).view.ref.isScScratch = false}
    {hsrc : (srcR c k).view.WordExact} {hdst : (dstR c k).view.WordExact}
    {hsem : DmaTarget.Typed .vmem (.dma (xsem 1 k)) (.remote (Dev.tc n : Thread nD τ) (dstR c k) (.dma (xsem 0 k)) hsc)}
    (fn : (cc0_stg1_0 : Ref sig .tc).ty.Contents (Elt F)) (O : CellTallies nD τ sig Unit) (W : Waits sig Unit)
    (rest : PUnit → Pr F) (Q : PUnit → sProp 𝕄) :
    iprop(cellInv ER (sched m ρ) (K (c, some (0, k))) (cell c (some (0, k))) ∗ cellInv ER (sched m ρ) (K (X c, some (1, k))) (cell (X c) (some (1, k)))
        ∗ xPts m ρ c k ∗ outPts (X c) c k fn
        ∗ owes (c : Thread nD τ) (O + tallyAt (cell (X c) (some (1, k))) () N) W
        ∗ dutyTok ER (cell c (some (0, k))) 0 false ∗ reached ER (cell c (some (0, k))) 0
        ∗ dutyTok ER (cell (X c) (some (1, k))) 0 false ∗ reached ER (cell (X c) (some (1, k))) 0)
      ⊢ iprop(((cred (tallyAt (cell c (some (0, k))) () N) ∗ owes (c : Thread nD τ) O W) -∗ WP c (rest ⟨⟩) Q)
          -∗ WP c (Prog.op (.enqueueDma (srcR c k) (.remote (Dev.tc n) (dstR c k) (.dma (xsem 0 k)) hsc) (.dma (xsem 1 k)) hsrc hdst hsem) rest) Q) := by
  subst hn
  rw [xPts_eq, outPts_dst]
  refine Rounds.wp_send_pointsTo 𝒱₀ ER (sched m ρ) (c : Thread nD τ) none (κ₁ := K (c, some (0, k))) (κ₂ := K (X c, some (1, k)))
    (r₁ := 0) (r₂ := 0) (d₁ := false) (d₂ := false) (c' := (X c : Thread nD τ)) (src := srcR c k) (dst := dstR c k)
    (sS := .dma (xsem 0 k)) (sem := .dma (xsem 1 k))
    (q := fullShare.left) (fs := xstg m ρ c) (fd := fn)
    (by rw [cell_eq, duties_xfer]; exact Finset.mem_singleton_self _)
    (by rw [cell_eq, duties_xfer]; exact Finset.mem_singleton_self _)
    () () N (show (dstR c k).view.amount (.dma (xsem 1 k)) = N from amount_dst c k) (amount_xfer m ρ c 0 k false) (amount_xfer m ρ (X c) 1 k false) O rfl (W := W)
    (by
      rw [cell_eq, payload_xfer]
      unfold xferPay; rw [if_pos rfl, xPts_eq])
    (by
      rw [cell_eq, payload_xfer]
      unfold xferPay dirPts; rw [if_neg (by decide), if_neg (by decide), X_X, outPts_dst]
      exact Entails.of_eq (pointsTo_congr fun i hi => sent m ρ c k fn i hi))

/-- One direct copy. -/
theorem send_turn (c : Dev nD) (k : Fin 16) (rest : Pr F) (Q : PUnit → sProp 𝕄) :
    iprop(ctx m ρ K ∗ sendInv m ρ c k.val) ⊢ iprop((sendInv m ρ c (k.val + 1) -∗ WP c rest Q) -∗ WP c (sendTurn c k rest) Q) := by
  unfold sendInv sendTurn
  rw [bigSep_geq, bigSep_ltn]
  unfold owing
  iintro ⟨#HC, ⟨Ht, Htodo⟩, Hdone, ⟨%W, HO⟩⟩ Hk
  unfold sendTodo outAny
  icases Ht with ⟨Hx, ⟨%fn, Hd⟩, Ht0, Ht1⟩
  iapply (send_rule m ρ K c _ (nX_eq c) k fn (fwdOwe c 0 + dirOwe c (k.val + 1)) W (fun _ => rest) Q) $$ [Hx Hd HO Ht0 Ht1]
  · isplitr; · iapply (ctx_inv m ρ K c (some (0, k))); iexact HC
    isplitr; · iapply (ctx_inv m ρ K (X c) (some (1, k))); iexact HC
    isplitl [Hx]; · iexact Hx
    isplitl [Hd]; · iexact Hd
    isplitl [HO]; · rw [dirOwe_step, ← add_assoc]; iexact HO
    isplitl [Ht0]; · iexact Ht0
    isplitr; · iapply (ctx_reached m ρ K c (some (0, k))); iexact HC
    isplitl [Ht1]; · iexact Ht1
    iapply (ctx_reached m ρ K (X c) (some (1, k))); iexact HC
  iintro ⟨Hc, HO⟩
  iapply Hk
  isplitl [Htodo]; · iexact Htodo
  isplitl [Hc Hdone]
  · isplitl [Hc]; · unfold sendDone; iexact Hc
    iexact Hdone
  iexists W; iexact HO

/-! ## Waits -/

/-- A wait at transfer cell `k` of family `j`, for the units of one copy: the cell's payload. -/
theorem wait_rule (c : Dev nD) (j : Fin 4) (k : Fin 16) {sp sp' : Space} {s s' : Shape} {e e' : EltTy}
    (src : Memref sig .tc sp' s' e') (dst : Memref sig .tc sp s e) (hN : dst.view.dmaCredit = N)
    {hsrc : src.view.WordExact} {hdst : dst.view.WordExact} (O : CellTallies nD τ sig Unit) (rest : PUnit → Pr F) (Q : PUnit → sProp 𝕄) :
    iprop(ctx m ρ K ∗ cred (tallyAt (cell c (some (j, k))) () N) ∗ owing c O ∗ MayWait (c : Thread nD τ) (csem (some (j, k))) () O
        ∗ atPos ER (cell c (some (j, k))) 0 ∅ 0)
      ⊢ iprop(((owing c O ∗ atPos ER (cell c (some (j, k))) 1 ∅ 0 ∗ xferPay m ρ c j k) -∗ WP c (rest ⟨⟩) Q)
          -∗ WP c (Prog.op (.waitDma2 (xsem j k) src dst hsrc hdst) rest) Q) := by
  unfold owing
  iintro ⟨#HC, Hc, ⟨%W, HO⟩, Hm, Hat⟩ Hk
  iapply (Rounds.wp_wait_rest_token 𝒱₀ ER (sched m ρ) (c : Thread nD τ) none (κ := K (c, some (j, k)))
      (wpE_waitDma2_eq 𝒱₀ (c : Thread nD τ) none Set.univ) (Set.mem_univ _) () (O := O) (W := W) (R := 0) (m := 0) (T := ∅)
      (by rw [cell_eq, Nat.zero_add, expect_xfer]; exact hN)) $$ [Hc HO Hm Hat]
  · isplitr; · iapply (ctx_inv m ρ K c (some (j, k))); iexact HC
    isplitl [Hc]; · rw [hN]; iexact Hc
    isplitl [HO]; · iexact HO
    isplitl [Hm]; · iexact Hm
    iexact Hat
  iintro ⟨HO, Hat, -, Hp⟩
  iapply Hk
  isplitl [HO]; · iexists _; iexact HO
  isplitl [Hat]; · iexact Hat
  iapply (Entails.of_eq (rest_xfer m ρ c j k)); iexact Hp

/-! ## The device's own half -/

/-- The own half of the result. -/
abbrev ownBand (c : Dev nD) := band 16384 (8192 * (c.val / 8)) (8192 * (c.val / 8) + 8192)

/-- The elements of the own half, its offset known only as equal to a row, -/
theorem ownV_set_of {off : Fin 2 → ℕ} {lo : ℕ} (h : off = ![lo, 0]) (inb) :
    ((oM : Memref sig .tc .vmem S16384x1024 .bf16).access (ownR off inb) : View sig .tc _ _ _).set = band 16384 lo (lo + 8192) := by
  subst h; exact own_set _ _
/-- and the device's own store at such an offset. -/
theorem own_lands_of {off : Fin 2 → ℕ} (c : Dev nD) (h : off = ![8192 * (c.val / 8), 0]) (inb)
    (fd : (cc0_stg1_0 : Ref sig .tc).ty.Contents (Elt F)) (i : ((oM : Memref sig .tc .vmem S16384x1024 .bf16).access (ownR off inb) : View sig .tc _ _ _).ty.Idx)
    (hi : i ∈ ownBand c) :
    ((oM : Memref sig .tc .vmem S16384x1024 .bf16).access (ownR off inb) : View sig .tc _ _ _).write (Elt F) fd (xstg m ρ c) Finset.univ i = full m ρ c i := by
  subst h; exact own_lands (xstg m ρ) c _ fd i hi

/-- The load of the whole argument starts at zero. -/
theorem hz : (![0, 0] : Fin 2 → Nat) = fun _ => 0 := funext fun a => by fin_cases a <;> rfl

/-- What is stored is what was read. -/
theorem pay_eq (v : Vec F S8192x1024 .bf16) : k0_pay1 v = v := by unfold k0_pay1; exact shapeCast_self _ _

/-- The own half after the store holds what the device gathers there. -/
theorem own_stored (c : Dev nD) (fd : (cc0_stg1_0 : Ref sig .tc).ty.Contents (Elt F)) :
    ((((oM : Memref sig .tc .vmem S16384x1024 .bf16).access (oR c)).loc (c : Thread nD τ)) ↦[ownBand c]{fullShare}
        ((oM : Memref sig .tc .vmem S16384x1024 .bf16).access (oR c)).write (Elt F) fd (xstg m ρ c) Finset.univ : sProp 𝕄)
      = (((c : Thread nD τ).loc cc0_stg1_0) ↦[ownBand c]{fullShare} full m ρ c) :=
  pointsTo_congr fun i hi => own_lands_of m ρ c (k0_off3_eq c) _ fd i hi

/-- The store of the own half, from half a share of the argument. -/
theorem own_turn (c : Dev nD) (fd : (cc0_stg1_0 : Ref sig .tc).ty.Contents (Elt F)) (rest : Pr F) (Q : PUnit → sProp 𝕄) :
    iprop((((c : Thread nD τ).loc cc0_stg0_0) ↦{fullShare.right} xstg m ρ c) ∗ (((c : Thread nD τ).loc cc0_stg1_0) ↦[ownBand c]{fullShare} fd))
      ⊢ iprop((((((c : Thread nD τ).loc cc0_stg0_0) ↦{fullShare.right} xstg m ρ c) ∗ (((c : Thread nD τ).loc cc0_stg1_0) ↦[ownBand c]{fullShare} full m ρ c))
            -∗ WP c rest Q) -∗ WP c (ownTurn c rest) Q) := by
  have hset : ((oM : Memref sig .tc .vmem S16384x1024 .bf16).access (oR c) : View sig .tc _ _ _).set = ownBand c := ownV_set_of (k0_off3_eq c) _
  unfold ownTurn
  iintro ⟨Hx, Ho⟩ Hk
  iapply (wp_load 𝒱₀ (c : Thread nD τ) none Set.univ (m := xM) (Finset.subset_univ _)) $$ Hx; iintro Hx
  rw [show (xM : Memref sig .tc .vmem S8192x1024 .bf16).view.readAt (Elt F) xR.toLoadRect (xstg m ρ c) = xstg m ρ c from
    Memref.readAt_unit_zero (Elt F) cc0_stg0_0 hz _ _]
  iapply (wp_load_rect 𝒱₀ (c : Thread nD τ) none Set.univ (m := oM) (r := oR c) hset.subset) $$ Ho; iintro Ho
  iapply (wp_store 𝒱₀ (c : Thread nD τ) none Set.univ (m := oM) (r := oR c) (Mk := Finset.univ) (by rw [View.setOn_univ]; exact hset.subset)) $$ Ho; iintro Ho
  iapply Hk
  isplitl [Hx]; · iexact Hx
  rw [pay_eq]
  iapply (Entails.of_eq (own_stored m ρ c fd)); iexact Ho

/-! ## The payloads of the four families -/

/-- A completed direct send hands back the rows of the argument it read; -/
theorem pay_0 (c : Dev nD) (k : Fin 16) : xferPay m ρ c 0 k = xPts m ρ c k := by unfold xferPay; exact if_pos rfl
/-- a direct arrival the rows it landed in; -/
theorem pay_1 (c : Dev nD) (k : Fin 16) : xferPay m ρ c 1 k = dirPts m ρ c k := by
  unfold xferPay; rw [if_neg (by decide)]; exact if_neg (by decide)
/-- a completed forward the rows it read; -/
theorem pay_2 (c : Dev nD) (k : Fin 16) : xferPay m ρ c 2 k = dirPts m ρ c k := by
  unfold xferPay; rw [if_neg (by decide)]; exact if_neg (by decide)
/-- a forwarded arrival the rows it landed in. -/
theorem pay_3 (c : Dev nD) (k : Fin 16) : xferPay m ρ c 3 k = fwdPts m ρ c k := by
  unfold xferPay; rw [if_neg (by decide)]; exact if_pos rfl

/-! ## The forwards -/

/-- For a forward to come: the credit and the seat for the copy it waits for, the target's rows, the two duties it pays. -/
def fwdTodo (c : Dev nD) (k : Fin 16) : sProp 𝕄 :=
  iprop(cred (tallyAt (cell c (some (1, k))) () N) ∗ atPos ER (cell c (some (1, k))) 0 ∅ 0 ∗ outAny (Y c) (X c) k
    ∗ dutyTok ER (cell c (some (2, k))) 0 false ∗ dutyTok ER (cell (Y c) (some (3, k))) 0 false)
/-- For one on its way: the seat past the wait, the credit at its send cell. -/
def fwdDone (c : Dev nD) (k : Fin 16) : sProp 𝕄 :=
  iprop(atPos ER (cell c (some (1, k))) 1 ∅ 0 ∗ cred (tallyAt (cell c (some (2, k))) () N))

/-- Before forward `i`. -/
def fwdInv (c : Dev nD) (i : ℕ) : sProp 𝕄 :=
  iprop(bigSep (geq i) (fwdTodo (F := F) c) ∗ bigSep (ltn i) (fwdDone (F := F) c) ∗ owing c (fwdOwe c i))

/-- The send rule at forward `k`, addressed to `n`, the neighbour across the second axis. -/
theorem forward_rule (c n : Dev nD) (hn : n = Y c) (k : Fin 16)
    {hsc : (fwdR c k : Memref sig (Dev.tc n : Thread nD τ).2.kind .vmem S256x1024 .bf16).view.ref.isScScratch = false}
    {hsrc : (fwdR c k).view.WordExact} {hdst : (fwdR c k).view.WordExact}
    {hsem : DmaTarget.Typed .vmem (.dma (xsem 3 k)) (.remote (Dev.tc n : Thread nD τ) (fwdR c k) (.dma (xsem 2 k)) hsc)}
    (fn : (cc0_stg1_0 : Ref sig .tc).ty.Contents (Elt F)) (O : CellTallies nD τ sig Unit) (W : Waits sig Unit)
    (rest : PUnit → Pr F) (Q : PUnit → sProp 𝕄) :
    iprop(cellInv ER (sched m ρ) (K (c, some (2, k))) (cell c (some (2, k))) ∗ cellInv ER (sched m ρ) (K (Y c, some (3, k))) (cell (Y c) (some (3, k)))
        ∗ dirPts m ρ c k ∗ outPts (Y c) (X c) k fn
        ∗ owes (c : Thread nD τ) (O + tallyAt (cell (Y c) (some (3, k))) () N) W
        ∗ dutyTok ER (cell c (some (2, k))) 0 false ∗ reached ER (cell c (some (2, k))) 0
        ∗ dutyTok ER (cell (Y c) (some (3, k))) 0 false ∗ reached ER (cell (Y c) (some (3, k))) 0)
      ⊢ iprop(((cred (tallyAt (cell c (some (2, k))) () N) ∗ owes (c : Thread nD τ) O W) -∗ WP c (rest ⟨⟩) Q)
          -∗ WP c (Prog.op (.enqueueDma (fwdR c k) (.remote (Dev.tc n) (fwdR c k) (.dma (xsem 2 k)) hsc) (.dma (xsem 3 k)) hsrc hdst hsem) rest) Q) := by
  subst hn
  unfold dirPts
  rw [outPts_fwd, outPts_fwd]
  refine Rounds.wp_send_pointsTo 𝒱₀ ER (sched m ρ) (c : Thread nD τ) none (κ₁ := K (c, some (2, k))) (κ₂ := K (Y c, some (3, k)))
    (r₁ := 0) (r₂ := 0) (d₁ := false) (d₂ := false) (c' := (Y c : Thread nD τ)) (src := fwdR c k) (dst := fwdR c k)
    (sS := .dma (xsem 2 k)) (sem := .dma (xsem 3 k)) (q := fullShare) (fs := full m ρ c) (fd := fn)
    (by rw [cell_eq, duties_xfer]; exact Finset.mem_singleton_self _)
    (by rw [cell_eq, duties_xfer]; exact Finset.mem_singleton_self _)
    () () N (show (fwdR c k).view.amount (.dma (xsem 3 k)) = N from amount_fwd c k) (amount_xfer m ρ c 2 k false) (amount_xfer m ρ (Y c) 3 k false) O rfl (W := W)
    (by
      rw [cell_eq, payload_xfer]
      rw [pay_2]; unfold dirPts; rw [outPts_fwd])
    (by
      rw [cell_eq, payload_xfer]
      rw [pay_3]; unfold fwdPts; rw [Y_Y, outPts_fwd]
      exact Entails.of_eq (pointsTo_congr fun i hi => forwarded m ρ c k fn i hi))

/-- A device that owes forwards only may wait for a direct copy. -/
theorem mayWait_fwd (c : Dev nD) (k : Fin 16) (i : ℕ) : ctx m ρ K ⊢ MayWait (c : Thread nD τ) (csem (some (1, k))) () (fwdOwe c i) :=
  by
  unfold ctx; exact sep_elim_right.trans (mayWait_direct c k i)

/-- One wait for a direct copy and the forward of what it brought. -/
theorem forward_turn (c : Dev nD) (k : Fin 16) (rest : Pr F) (Q : PUnit → sProp 𝕄) :
    iprop(ctx m ρ K ∗ fwdInv c k.val) ⊢ iprop((fwdInv c (k.val + 1) -∗ WP c rest Q) -∗ WP c (forwardTurn c k rest) Q) := by
  unfold fwdInv forwardTurn
  rw [bigSep_geq, bigSep_ltn]
  iintro ⟨#HC, ⟨Ht, Htodo⟩, Hdone, HO⟩ Hk
  unfold fwdTodo outAny
  icases Ht with ⟨Hc, Hat, ⟨%fn, Hd⟩, Ht2, Ht3⟩
  iapply (wait_rule m ρ K c 1 k (srcR c k) (dstR c k) (amount_dst c k) (fwdOwe c k.val) _ Q) $$ [Hc Hat HO]
  · isplitr; · iexact HC
    isplitl [Hc]; · iexact Hc
    isplitl [HO]; · iexact HO
    isplitr
    · iapply (mayWait_fwd m ρ K c k k.val); iexact HC
    iexact Hat
  iintro ⟨HO, Hat, Hp⟩
  unfold owing
  icases HO with ⟨%W, HO⟩
  iapply (forward_rule m ρ K c _ (nY_eq c) k fn (fwdOwe c (k.val + 1)) W (fun _ => rest) Q) $$ [Hp Hd HO Ht2 Ht3]
  · isplitr; · iapply (ctx_inv m ρ K c (some (2, k))); iexact HC
    isplitr; · iapply (ctx_inv m ρ K (Y c) (some (3, k))); iexact HC
    isplitl [Hp]; · rw [← pay_1]; iexact Hp
    isplitl [Hd]; · iexact Hd
    isplitl [HO]; · rw [fwdOwe_step]; iexact HO
    isplitl [Ht2]; · iexact Ht2
    isplitr; · iapply (ctx_reached m ρ K c (some (2, k))); iexact HC
    isplitl [Ht3]; · iexact Ht3
    iapply (ctx_reached m ρ K (Y c) (some (3, k))); iexact HC
  iintro ⟨Hc, HO⟩
  iapply Hk
  isplitl [Htodo]; · iexact Htodo
  isplitl [Hat Hc Hdone]
  · isplitl [Hat Hc]
    · unfold fwdDone; isplitl [Hat]; · iexact Hat
      iexact Hc
    iexact Hdone
  iexists W; iexact HO

/-! ## The last waits -/

/-- For a triple of waits to come: a credit and a seat at each of the three cells. -/
def drainTodo (c : Dev nD) (k : Fin 16) : sProp 𝕄 :=
  iprop((cred (tallyAt (cell c (some (0, k))) () N) ∗ atPos ER (cell c (some (0, k))) 0 ∅ 0)
    ∗ (cred (tallyAt (cell c (some (2, k))) () N) ∗ atPos ER (cell c (some (2, k))) 0 ∅ 0)
    ∗ (cred (tallyAt (cell c (some (3, k))) () N) ∗ atPos ER (cell c (some (3, k))) 0 ∅ 0))
/-- For one done: the seats past the waits, and the rows given back and received. -/
def drainDone (c : Dev nD) (k : Fin 16) : sProp 𝕄 :=
  iprop((atPos ER (cell c (some (0, k))) 1 ∅ 0 ∗ xPts m ρ c k) ∗ (atPos ER (cell c (some (2, k))) 1 ∅ 0 ∗ dirPts m ρ c k)
    ∗ (atPos ER (cell c (some (3, k))) 1 ∅ 0 ∗ fwdPts m ρ c k))

/-- Before triple `i`. -/
def drainInv (c : Dev nD) (i : ℕ) : sProp 𝕄 :=
  iprop(bigSep (geq i) (drainTodo (F := F) c) ∗ bigSep (ltn i) (drainDone m ρ c) ∗ owing c 0)

/-- A device that owes nothing may wait anywhere. -/
theorem mayWait_free (c : Dev nD) (sm : SemLoc sig) : (iprop(emp) : sProp 𝕄) ⊢ MayWait (c : Thread nD τ) sm () 0 := by
  rw [MayWait_zero]; exact BI.Entails.refl _

/-- A wait of a device that owes nothing. -/
theorem wait_free (c : Dev nD) (j : Fin 4) (k : Fin 16) {sp sp' : Space} {s s' : Shape} {e e' : EltTy}
    (src : Memref sig .tc sp' s' e') (dst : Memref sig .tc sp s e) (hN : dst.view.dmaCredit = N)
    {hsrc : src.view.WordExact} {hdst : dst.view.WordExact} (rest : PUnit → Pr F) (Q : PUnit → sProp 𝕄) :
    iprop(ctx m ρ K ∗ (cred (tallyAt (cell c (some (j, k))) () N) ∗ atPos ER (cell c (some (j, k))) 0 ∅ 0) ∗ owing c 0)
      ⊢ iprop((((atPos ER (cell c (some (j, k))) 1 ∅ 0 ∗ xferPay m ρ c j k) ∗ owing c 0) -∗ WP c (rest ⟨⟩) Q)
          -∗ WP c (Prog.op (.waitDma2 (xsem j k) src dst hsrc hdst) rest) Q) := by
  iintro ⟨#HC, ⟨Hc, Hat⟩, HO⟩ Hk
  iapply (wait_rule m ρ K c j k src dst hN 0 rest Q) $$ [Hc Hat HO]
  · isplitr; · iexact HC
    isplitl [Hc]; · iexact Hc
    isplitl [HO]; · iexact HO
    isplitr; · iapply (mayWait_free (F := F) c); iempintro
    iexact Hat
  iintro ⟨HO, Hat, Hp⟩
  iapply Hk
  isplitl [Hat Hp]
  · isplitl [Hat] <;> iassumption
  iexact HO

/-- One triple of waits. -/
theorem drain_turn (c : Dev nD) (k : Fin 16) (rest : Pr F) (Q : PUnit → sProp 𝕄) :
    iprop(ctx m ρ K ∗ drainInv m ρ c k.val) ⊢ iprop((drainInv m ρ c (k.val + 1) -∗ WP c rest Q) -∗ WP c (drainTurn c k rest) Q) := by
  unfold drainInv drainTurn
  rw [bigSep_geq, bigSep_ltn]
  iintro ⟨#HC, ⟨Ht, Htodo⟩, Hdone, HO⟩ Hk
  unfold drainTodo
  icases Ht with ⟨H0, H2, H3⟩
  iapply (wait_free m ρ K c 0 k (dstR c k) (srcR c k) (amount_src c k) _ Q) $$ [H0 HO]
  · isplitr; · iexact HC
    isplitl [H0] <;> iassumption
  iintro ⟨H0, HO⟩
  iapply (wait_free m ρ K c 2 k (fwdR c k) (fwdR c k) (amount_fwd c k) _ Q) $$ [H2 HO]
  · isplitr; · iexact HC
    isplitl [H2] <;> iassumption
  iintro ⟨H2, HO⟩
  iapply (wait_free m ρ K c 3 k (fwdR c k) (fwdR c k) (amount_fwd c k) _ Q) $$ [H3 HO]
  · isplitr; · iexact HC
    isplitl [H3] <;> iassumption
  iintro ⟨H3, HO⟩
  iapply Hk
  isplitl [Htodo]; · iexact Htodo
  isplitl [H0 H2 H3 Hdone]
  · isplitl [H0 H2 H3]
    · unfold drainDone
      rw [← pay_0, ← pay_2, ← pay_3]
      isplitl [H0]; · iexact H0
      isplitl [H2] <;> iassumption
    iexact Hdone
  iexact HO

end Cert.Gather

end
-- ==== Proof.Body.lean ====
/-
# The body of one device

The staged argument and the result are cut into the bands the copies move; the barrier and the three loops are run in
order; the bands are put together again and the cells closed.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the two buffers -/

/-- The own half of the result of device `c`, held whole at `f`. -/
def ownPts (c : Dev nD) (f : (cc0_stg1_0 : Ref sig .tc).ty.Contents (Elt F)) : sProp 𝕄 :=
  ((c : Thread nD τ).loc cc0_stg1_0) ↦[ownBand c]{fullShare} f

/-- A quarter of the result is the sixteen chunks of it. -/
theorem quarter_cut (c d : Dev nD) (f : (cc0_stg1_0 : Ref sig .tc).ty.Contents (Elt F)) :
    (((c : Thread nD τ).loc cc0_stg1_0) ↦[band 16384 (base d) (base d + 4096)]{fullShare} f : sProp 𝕄)
      = bigSep Finset.univ fun k => outPts c d k f := by
  rw [band_cut]
  exact pointsTo_biUnion _ _ fun k _ k' _ h => band_cut_disjoint 16384 (base d) k k' h

/-- The result is the own half and the chunks of the two quarters from across. -/
theorem out_cut (c : Dev nD) (f : (cc0_stg1_0 : Ref sig .tc).ty.Contents (Elt F)) :
    (((c : Thread nD τ).loc cc0_stg1_0) ↦{fullShare} f : sProp 𝕄)
      ⊣⊢ iprop(ownPts c f ∗ (bigSep Finset.univ fun k => outPts c (X c) k f) ∗ (bigSep Finset.univ fun k => outPts c (X (Y c)) k f)) := by
  rw [← quarter_cut, ← quarter_cut]
  have e : (Finset.univ : Finset (Idx ((c : Thread nD τ).loc cc0_stg1_0)))
      = ownBand c ∪ (band 16384 (base (X c)) (base (X c) + 4096) ∪ band 16384 (base (X (Y c))) (base (X (Y c)) + 4096)) := out_cover c
  rw [e]
  have h1 := pointsTo_union (Ix := Unit) (Name := ℕ) (U := UU) (Lvl := ℕ) (ℓ := (c : Thread nD τ).loc cc0_stg1_0) (q := fullShare) (f := f) (own_disjoint c)
  have h2 := pointsTo_union (Ix := Unit) (Name := ℕ) (U := UU) (Lvl := ℕ) (ℓ := (c : Thread nD τ).loc cc0_stg1_0) (q := fullShare) (f := f) (quarters_disjoint c)
  exact ⟨h1.1.trans (sep_mono_right h2.1), (sep_mono_right h2.2).trans h1.2⟩

/-- What no copy reads of the left half share of the argument. -/
def xIdle (c : Dev nD) : sProp 𝕄 :=
  ((c : Thread nD τ).loc cc0_stg0_0) ↦[Finset.univ \ band 8192 (xbase c) (xbase c + 4096)]{fullShare.left} xstg m ρ c
/-- The right half share of the argument, from which the own half of the result is stored. -/
def xRight (c : Dev nD) : sProp 𝕄 := ((c : Thread nD τ).loc cc0_stg0_0) ↦{fullShare.right} xstg m ρ c

/-- The argument is its right half share, the chunks the copies read at the left half share, and what they leave. -/
theorem x_cut (c : Dev nD) :
    (((c : Thread nD τ).loc cc0_stg0_0) ↦{fullShare} xstg m ρ c : sProp 𝕄)
      ⊣⊢ iprop(((bigSep Finset.univ (xPts m ρ c)) ∗ xIdle m ρ c) ∗ xRight m ρ c) := by
  have e : (bigSep Finset.univ (xPts m ρ c))
      = (((c : Thread nD τ).loc cc0_stg0_0) ↦[band 8192 (xbase c) (xbase c + 4096)]{fullShare.left} xstg m ρ c : sProp 𝕄) := by
    rw [band_cut]
    exact (pointsTo_biUnion _ _ fun k _ k' _ h => band_cut_disjoint 8192 (xbase c) k k' h).symm
  rw [e]
  have h1 := pointsTo_share (Ix := Unit) (Name := ℕ) (U := UU) (Lvl := ℕ) (ℓ := (c : Thread nD τ).loc cc0_stg0_0) (I := Finset.univ) (f := xstg m ρ c) (PosShare.mem_left_op_right fullShare)
  have h2 := pointsTo_split_subset (Ix := Unit) (Name := ℕ) (U := UU) (Lvl := ℕ) (ℓ := (c : Thread nD τ).loc cc0_stg0_0) (q := fullShare.left) (f := xstg m ρ c)
    (Finset.subset_univ (band 8192 (xbase c) (xbase c + 4096)))
  exact ⟨h1.1.trans (sep_mono_left h2.1), (sep_mono_left h2.2).trans h1.2⟩

/-- A chunk held at known contents is held. -/
theorem outAny_intro (c d : Dev nD) (k : Fin 16) (f : (cc0_stg1_0 : Ref sig .tc).ty.Contents (Elt F)) : (outPts c d k f : sProp 𝕄) ⊢ outAny c d k := by
  unfold outAny; iintro H; iexists f; iexact H
/-- The same for all the chunks of a quarter. -/
theorem outAny_all (c d : Dev nD) (f : (cc0_stg1_0 : Ref sig .tc).ty.Contents (Elt F)) :
    (bigSep Finset.univ fun k => outPts c d k f : sProp 𝕄) ⊢ bigSep Finset.univ (outAny c d) :=
  bigSep_mono fun k _ => outAny_intro c d k f

/-! ## The three loops in order -/

/-- A loop of sixteen turns. -/
theorem loop_rule (c : Dev nD) (R : sProp 𝕄) [BI.Persistent R] (f : Fin 16 → Pr F → Pr F) (I : ℕ → sProp 𝕄)
    (turn : ∀ (k : Fin 16) (rest : Pr F) (Q : PUnit → sProp 𝕄), iprop(R ∗ I k.val) ⊢ iprop((I (k.val + 1) -∗ WP c rest Q) -∗ WP c (f k rest) Q))
    (rest : Pr F) (Q : PUnit → sProp 𝕄) (h : 16 ≤ 16) :
    iprop(R ∗ I 0) ⊢ iprop((I 16 -∗ WP c rest Q) -∗ WP c (turns f rest 16 h) Q) :=
  turns_rule c R f I turn rest Q 16 h

/-- Before its first turn and after its last, what a loop holds per copy is held for all of them. -/
theorem count_start (Φ Ψ : Fin 16 → sProp 𝕄) : (bigSep Finset.univ Φ : sProp 𝕄) ⊢ iprop(bigSep (geq 0) Φ ∗ bigSep (ltn 0) Ψ) := by
  rw [geq_zero, ltn_zero, bigSep_empty]
  iintro H
  isplitl [H]; · iexact H
  iempintro
/-- At the end of a loop every chunk is past. -/
theorem count_end (Φ Ψ : Fin 16 → sProp 𝕄) : (iprop(bigSep (geq 16) Φ ∗ bigSep (ltn 16) Ψ) : sProp 𝕄) ⊢ bigSep Finset.univ Ψ := by
  rw [geq_end, ltn_end]
  iintro ⟨-, H⟩
  iexact H

variable (K : Dev nD × CI → ℕ)

/-- What the loops start from, past the barrier. -/
def loopsPre (c : Dev nD) (fd : (cc0_stg1_0 : Ref sig .tc).ty.Contents (Elt F)) : sProp 𝕄 :=
  iprop(bigSep Finset.univ (sendTodo m ρ c) ∗ owing c (O₂ c) ∗ (xRight m ρ c ∗ ownPts c fd) ∗ bigSep Finset.univ (fwdTodo (F := F) c)
    ∗ (bigSep Finset.univ fun k => atPos ER (cell c (some (0, k))) 0 ∅ 0)
    ∗ (bigSep Finset.univ fun k => atPos ER (cell c (some (2, k))) 0 ∅ 0)
    ∗ (bigSep Finset.univ fun k => atPos ER (cell c (some (3, k))) 0 ∅ 0)
    ∗ (bigSep Finset.univ fun k => cred (tallyAt (cell c (some (3, k))) () N)))

/-- What they end with. -/
def loopsPost (c : Dev nD) : sProp 𝕄 :=
  iprop(bigSep Finset.univ (drainDone m ρ c) ∗ (bigSep Finset.univ fun k => atPos ER (cell c (some (1, k))) 1 ∅ 0)
    ∗ (xRight m ρ c ∗ ownPts c (full m ρ c)) ∗ owing c 0)

/-- What the last loop needs for each copy, from the credits the first two earned. -/
theorem drain_start (c : Dev nD) :
    (iprop(bigSep Finset.univ (sendDone (F := F) c) ∗ (bigSep Finset.univ fun k => cred (tallyAt (cell c (some (2, k))) () N))
        ∗ (bigSep Finset.univ fun k => cred (tallyAt (cell c (some (3, k))) () N))
        ∗ (bigSep Finset.univ fun k => atPos ER (cell c (some (0, k))) 0 ∅ 0)
        ∗ (bigSep Finset.univ fun k => atPos ER (cell c (some (2, k))) 0 ∅ 0)
        ∗ (bigSep Finset.univ fun k => atPos ER (cell c (some (3, k))) 0 ∅ 0)) : sProp 𝕄)
      ⊢ bigSep Finset.univ (drainTodo (F := F) c) := by
  unfold drainTodo sendDone
  simp only [bigSep_sep']
  iintro ⟨H0, H2, H3, A0, A2, A3⟩
  isplitl [H0 A0]; · isplitl [H0] <;> iassumption
  isplitl [H2 A2]; · isplitl [H2] <;> iassumption
  isplitl [H3] <;> iassumption

/-- All that follows the barrier. -/
theorem after_barrier (c : Dev nD) (fd : (cc0_stg1_0 : Ref sig .tc).ty.Contents (Elt F)) (Q : PUnit → sProp 𝕄) :
    iprop(ctx m ρ K ∗ loopsPre m ρ c fd) ⊢ iprop((loopsPost m ρ c -∗ WP c (pure ⟨⟩) Q) -∗ WP c (afterBarrier c) Q) := by
  unfold afterBarrier loopsPre
  iintro ⟨#HC, Hs, HO, Hown, Hf, A0, A2, A3, C3⟩ Hk
  -- the direct copies
  iapply (loop_rule c (ctx m ρ K) (sendTurn c) (sendInv m ρ c) (send_turn m ρ K c) _ Q le_rfl) $$ [Hs HO]
  · isplitr; · iexact HC
    unfold sendInv
    ihave H := (count_start (sendTodo m ρ c) (sendDone (F := F) c)) $$ Hs
    icases H with ⟨H1, H2⟩
    isplitl [H1]; · iexact H1
    isplitl [H2]; · iexact H2
    unfold O₂; iexact HO
  iintro H
  unfold sendInv
  icases H with ⟨H1, H2, HO⟩
  ihave Hs := (count_end (sendTodo m ρ c) (sendDone (F := F) c)) $$ [H1 H2]
  · isplitl [H1] <;> iassumption
  -- the own half
  iapply (own_turn m ρ c fd _ Q) $$ [Hown]
  · unfold xRight ownPts; iexact Hown
  iintro Hown
  -- the forwards
  iapply (loop_rule c (ctx m ρ K) (forwardTurn c) (fwdInv c) (forward_turn m ρ K c) _ Q le_rfl) $$ [Hf HO]
  · isplitr; · iexact HC
    unfold fwdInv
    ihave H := (count_start (fwdTodo (F := F) c) (fwdDone (F := F) c)) $$ Hf
    icases H with ⟨H1, H2⟩
    isplitl [H1]; · iexact H1
    isplitl [H2]; · iexact H2
    rw [dirOwe_end, add_zero]; iexact HO
  iintro H
  unfold fwdInv
  icases H with ⟨H1, H2, HO⟩
  ihave Hf := (count_end (fwdTodo (F := F) c) (fwdDone (F := F) c)) $$ [H1 H2]
  · isplitl [H1] <;> iassumption
  unfold fwdDone
  ihave Hf := (Entails.of_eq (bigSep_sep' Finset.univ _ _)) $$ Hf
  icases Hf with ⟨A1, C2⟩
  -- the last waits
  iapply (loop_rule c (ctx m ρ K) (drainTurn c) (drainInv m ρ c) (drain_turn m ρ K c) _ Q le_rfl) $$ [Hs C2 C3 A0 A2 A3 HO]
  · isplitr; · iexact HC
    unfold drainInv
    ihave H := (drain_start (F := F) c) $$ [Hs C2 C3 A0 A2 A3]
    · isplitl [Hs]; · iexact Hs
      isplitl [C2]; · iexact C2
      isplitl [C3]; · iexact C3
      isplitl [A0]; · iexact A0
      isplitl [A2] <;> iassumption
    ihave H := (count_start (drainTodo (F := F) c) (drainDone m ρ c)) $$ H
    icases H with ⟨H1, H2⟩
    isplitl [H1]; · iexact H1
    isplitl [H2]; · iexact H2
    rw [fwdOwe_end]; iexact HO
  iintro H
  unfold drainInv
  icases H with ⟨H1, H2, HO⟩
  ihave Hd := (count_end (drainTodo (F := F) c) (drainDone m ρ c)) $$ [H1 H2]
  · isplitl [H1] <;> iassumption
  iapply Hk
  unfold loopsPost
  isplitl [Hd]; · iexact Hd
  isplitl [A1]; · iexact A1
  isplitl [Hown]; · unfold xRight ownPts; iexact Hown
  iexact HO

end Cert.Gather

end
-- ==== Proof.Device.lean ====
/-
# The body, from the launch's hands and back

The proof data of the kernel's one grid point, the body run from what a device starts with, and the cells closed.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the grid's one point -/

/-- The arrays start at launch's contents and end at the argument and what the device gathers. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => full m ρ c
  Φ t := match t with
    | ⟨0, _⟩ => start m ρ c
    | ⟨_ + 1, _⟩ => finish c
  q _ := fullShare
  owed t := match t with
    | ⟨0, _⟩ => O₀ c
    | ⟨_ + 1, _⟩ => 0

/-- The two windows one by one. -/
theorem bigSep_W (Φ : Fin cfg0.W → sProp 𝕄) : bigSep Finset.univ Φ = iprop(Φ (0 : Fin 2) ∗ Φ (1 : Fin 2)) := bigSep_W0 Φ

/-- The argument is fetched. -/
theorem fetch_x (t : Fin cfg0.N) : (cfg0.win (0 : Fin 2)).fetch t = true := by rw [fin_N0 t]; rfl

/-- A whole buffer held at contents `x`. -/
abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

/-- Owning a whole memref is holding its buffer. -/
theorem owns_whole (c : Dev nD) (b : Ref sig .tc) (x : b.ty.Contents (Elt F)) :
    (owns (Ix := Unit) (Name := ℕ) (U := UU) (Lvl := ℕ) (c : Thread nD τ) (Memref.whole b) fullShare x : sProp 𝕄) = stg c b x := by
  unfold owns stg; simp only [Memref.view_whole, View.read_whole, View.set_whole]

/-! ## The barrier -/

section Body

variable (K : Dev nD × CI → ℕ)

/-- The first signal goes to the neighbour across the first axis, -/
theorem sig_X (c : Dev nD) : (⟨k0_dev1 c, k0_dev1_lt c⟩ : Dev nD) = X c := Fin.ext ((k0_dev1_eq c).trans (X_val c))
/-- the second to the one across the second. -/
theorem sig_Y (c : Dev nD) : (⟨k0_dev2 c, k0_dev2_lt c⟩ : Dev nD) = Y c := Fin.ext ((k0_dev2_eq c).trans (Y_val c))

/-- A signal of one unit to the barrier of device `n`, as its duty `d`. -/
theorem signal_rule (c n : Dev nD) (d : Bool) (O : CellTallies nD τ sig Unit) (W : Waits sig Unit) (rest : PUnit → Pr F) (Q : PUnit → sProp 𝕄) :
    iprop(ctx m ρ K ∗ owes (c : Thread nD τ) (O + tallyAt (cell n none) () 1) W ∗ dutyTok ER (cell n none) 0 d ∗ barPay n d)
      ⊢ iprop((owes (c : Thread nD τ) O W -∗ WP c (rest ⟨⟩) Q) -∗ WP c (Prog.op (.semSignal (n : Thread nD τ) barS 1) rest) Q) := by
  iintro ⟨#HC, HO, Ht, Hp⟩ Hk
  iapply (Rounds.wp_signal 𝒱₀ ER (sched m ρ) (c : Thread nD τ) none (dst := (n : Thread nD τ)) (sem := barS) (κ := K (n, none)) (r := 0)
      (d := d) (k' := 1) (show d ∈ (sched m ρ).duties (cell n none) 0 by rw [duties_bar]; exact Finset.mem_univ _) (amount_bar m ρ n d) () O rfl)
    $$ [HO Ht Hp]
  · isplitr; · iapply (ctx_inv m ρ K n none); iexact HC
    isplitl [HO]; · iexact HO
    isplitl [Ht]; · iexact Ht
    isplitl [Hp]
    · iapply (show barPay n d ⊢ (sched m ρ).payload ((n : Thread nD τ), .reg barS) 0 d from Entails.of_eq rfl); iexact Hp
    iapply (ctx_reached m ρ K n none); iexact HC
  iexact Hk

/-- The wait for both neighbours' signals. -/
theorem barrier_rule (c : Dev nD) (W : Waits sig Unit) (rest : PUnit → Pr F) (Q : PUnit → sProp 𝕄) :
    iprop(ctx m ρ K ∗ cred (tallyAt (cell c none) () 2) ∗ owes (c : Thread nD τ) (O₂ c) W ∗ atPos ER (cell c none) 0 ∅ 0)
      ⊢ iprop(((owing c (O₂ c) ∗ atPos ER (cell c none) 1 ∅ 0 ∗ bigSep Finset.univ (outAny (X c) c) ∗ bigSep Finset.univ (outAny (Y c) (X c)))
            -∗ WP c (rest ⟨⟩) Q) -∗ WP c (Prog.op (.semWait barS 2) rest) Q) := by
  iintro ⟨#HC, Hc, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := O₂ c) (W := W) (R := 0) (m := 0) (T := ∅)
      (show 0 + 2 = (sched m ρ).expect (cell c none) 0 by rw [expect_bar])) $$ [Hc HO Hat]
  · isplitr; · iapply (ctx_inv m ρ K c none); iexact HC
    isplitl [Hc]; · iexact Hc
    isplitl [HO]; · iexact HO
    isplitr; · unfold ctx; icases HC with ⟨-, Hl⟩; iapply (mayWait_bar c); iexact Hl
    iexact Hat
  iintro ⟨HO, Hat, -, Hp⟩
  iapply Hk
  isplitl [HO]; · unfold owing; iexists _; iexact HO
  isplitl [Hat]; · iexact Hat
  iapply (Entails.of_eq (rest_bar m ρ c)); iexact Hp

/-! ## Closing the cells -/

/-- A family of a device's cells past their round: closed, the counters at zero. -/
theorem close_all (c : Dev nD) (j : Fin 4) :
    iprop(ctx m ρ K ∗ bigSep Finset.univ fun k => atPos ER (cell c (some (j, k))) 1 ∅ 0)
      ⊢ iprop(|={Set.univ}=> bigSep Finset.univ fun k => semVal (cell c (some (j, k))) 0) := by
  refine BIBase.Entails.trans ?_ (bigSep_fupd _ _)
  refine (sep_mono_left (BI.bigSep_of_persistent (Finset.univ : Finset (Fin 16)) (ctx m ρ K))).trans ?_
  rw [← bigSep_sep']
  refine bigSep_mono fun k _ => ?_
  exact (sep_mono_left (ctx_inv m ρ K c (some (j, k)))).trans
    (Rounds.cell_close ER (sched m ρ) (Set.mem_univ _) (fun h => h) (R := 0 + 1) (duties_later m ρ _))

/-- The barrier's cell past its round: closed. -/
theorem close_bar (c : Dev nD) :
    iprop(ctx m ρ K ∗ atPos ER (cell c none) 1 ∅ 0) ⊢ iprop(|={Set.univ}=> semVal (cell c none) 0) :=
  (sep_mono_left (ctx_inv m ρ K c none)).trans
    (Rounds.cell_close ER (sched m ρ) (Set.mem_univ _) (fun h => h) (R := 0 + 1) (duties_later m ρ _))

/-! ## The body -/

/-- What the body starts from, the names fixed, -/
def bodyPre (c : Dev nD) : sProp 𝕄 :=
  iprop((ghost m ρ K c ∗ credits c ∗ levAts L lv) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it ends with. -/
def bodyPost (c : Dev nD) : sProp 𝕄 :=
  iprop(finish c ∗ (dats m ρ 0 c).owesAt () t0_0.succ ∗ stg c cc0_stg0_0 (xstg m ρ c) ∗ stg c cc0_stg1_0 (full m ρ c))

/-- The end: the bands put together, the cells closed. -/
theorem body_end (c : Dev nD) :
    iprop(ctx m ρ K ∗ loopsPost m ρ c ∗ atPos ER (cell c none) 1 ∅ 0 ∗ xIdle m ρ c) ⊢ iprop(|={Set.univ}=> bodyPost m ρ c) := by
  unfold loopsPost drainDone
  simp only [bigSep_sep']
  iintro ⟨#HC, ⟨⟨⟨A0, Hx⟩, ⟨A2, Hd⟩, ⟨A3, Hf⟩⟩, A1, ⟨Hr, Hown⟩, HO⟩, Ab, Hi⟩
  imod (close_bar m ρ K c) $$ [Ab] with Zb
  · isplitr; · iexact HC
    iexact Ab
  imod (close_all m ρ K c 0) $$ [A0] with Z0
  · isplitr; · iexact HC
    iexact A0
  imod (close_all m ρ K c 1) $$ [A1] with Z1
  · isplitr; · iexact HC
    iexact A1
  imod (close_all m ρ K c 2) $$ [A2] with Z2
  · isplitr; · iexact HC
    iexact A2
  imod (close_all m ρ K c 3) $$ [A3] with Z3
  · isplitr; · iexact HC
    iexact A3
  imodintro
  unfold bodyPost finish zeros Dat.owesAt Pipeline.owesWithin owing
  rw [show (dats m ρ 0 c).owed t0_0.succ = 0 from rfl]
  isplitl [Zb Z0 Z1 Z2 Z3]
  · isplitl [Z0 Z1 Z2 Z3]
    · isplitl [Z0]; · iexact Z0
      isplitl [Z1]; · iexact Z1
      isplitl [Z2] <;> iassumption
    iexact Zb
  isplitl [HO]
  · icases HO with ⟨%W, HO⟩
    iexists W
    isplitr; · ipureintro; exact fun _ _ => Or.inl trivial
    iexact HO
  isplitl [Hx Hi Hr]
  · iexists (xstg m ρ c)
    isplitr; · ipureintro; rfl
    iapply (x_cut m ρ c).2
    isplitl [Hx Hi]
    · isplitl [Hx]; · iexact Hx
      iexact Hi
    iexact Hr
  · iexists (full m ρ c)
    isplitr; · ipureintro; rfl
    iapply (out_cut c (full m ρ c)).2
    isplitl [Hown]; · iexact Hown
    isplitl [Hd]; · unfold dirPts; iexact Hd
    unfold fwdPts; iexact Hf

/-- The program at its end. -/
theorem wp_done (c : Dev nD) (Q : PUnit → sProp 𝕄) : iprop(|={Set.univ}=> Q ⟨⟩) ⊢ WP c (pure ⟨⟩) Q := by
  show _ ⊢ wp frame (wpE (defs₀ (F := F)) 𝒱₀ (c : Thread nD τ) none) Set.univ (Prog.ret ⟨⟩) Q
  rw [wp_ret]

set_option maxHeartbeats 800000 in
/-- The body run. -/
theorem sound_body (c : Dev nD) (Q : PUnit → sProp 𝕄) :
    iprop(bodyPre m ρ K c ∗ (bodyPost m ρ c -∗ Q ⟨⟩))
      ⊢ WP c (cc0_body (Memref.whole cc0_stg0_0) (Memref.isWhole_whole _) (Memref.whole cc0_stg1_0) (Memref.isWhole_whole _)
            cc0_scratch0 cc0_scratch1 cc0_scratch2 cc0_scratch3) Q := by
  rw [body_eq_loops]
  unfold gatherProg
  simp only [semSignalWord, semWaitWord, Prog.lift, Prog.bind_op, Prog.bind_ret, wp_deviceId]
  unfold bodyPre ghost credits
  iintro ⟨⟨⟨⟨#HR, Hseat, Htok⟩, ⟨Cb, C1, C3⟩, #Hlev⟩, Ho, ⟨%d0, %g0, %hg0, Hx⟩, ⟨%d1, %g1, %hg1, Hout⟩⟩, Hk⟩
  have hx : g0 = xstg m ρ c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = O₀ c from rfl]
  ihave #HC : ctx m ρ K $$ []
  · unfold ctx; isplitr; · iexact HR
    iexact Hlev
  unfold seats payToks
  icases Hseat with ⟨Ab, A0, A1, A2, A3⟩
  icases Htok with ⟨TbX, TbY, T0, T1, T2, T3⟩
  ihave Hx := (x_cut m ρ c).1 $$ Hx
  icases Hx with ⟨⟨Hx, Hi⟩, Hr⟩
  ihave Hout := (out_cut c g1).1 $$ Hout
  icases Hout with ⟨Hown, Hq, Hq'⟩
  rw [sig_X c, sig_Y c]
  unfold O₀
  iapply (signal_rule m ρ K c (X c) false (O₁ c) W _ Q) $$ [HO TbX Hq]
  · isplitr; · iexact HC
    isplitl [HO]; · iexact HO
    isplitl [TbX]; · iexact TbX
    unfold barPay; rw [if_neg Bool.false_ne_true, X_X]
    iapply (outAny_all c (X c) g1); iexact Hq
  iintro HO
  unfold O₁
  iapply (signal_rule m ρ K c (Y c) true (O₂ c) W _ Q) $$ [HO TbY Hq']
  · isplitr; · iexact HC
    isplitl [HO]; · iexact HO
    isplitl [TbY]; · iexact TbY
    unfold barPay; rw [if_pos rfl, Y_Y]
    iapply (outAny_all c (X (Y c)) g1); iexact Hq'
  iintro HO
  iapply (barrier_rule m ρ K c W _ Q) $$ [Cb HO Ab]
  · isplitr; · iexact HC
    isplitl [Cb]; · iexact Cb
    isplitl [HO] <;> iassumption
  iintro ⟨HO, Ab, Hq, Hq'⟩
  iapply (after_barrier m ρ K c g1 Q) $$ [HO Hx Hq T0 T1 Hr Hown C1 A1 Hq' T2 T3 A0 A2 A3 C3]
  · isplitr; · iexact HC
    unfold loopsPre
    isplitl [Hx Hq T0 T1]
    · unfold sendTodo; simp only [bigSep_sep']
      isplitl [Hx]; · iexact Hx
      isplitl [Hq]; · iexact Hq
      isplitl [T0] <;> iassumption
    isplitl [HO]; · iexact HO
    isplitl [Hr Hown]; · isplitl [Hr] <;> iassumption
    isplitl [C1 A1 Hq' T2 T3]
    · unfold fwdTodo; simp only [bigSep_sep']
      isplitl [C1]; · iexact C1
      isplitl [A1]; · iexact A1
      isplitl [Hq']; · iexact Hq'
      isplitl [T2] <;> iassumption
    isplitl [A0]; · iexact A0
    isplitl [A2]; · iexact A2
    isplitl [A3] <;> iassumption
  iintro Hpost
  iapply (wp_done c Q)
  imod (body_end m ρ K c) $$ [Hpost Ab Hi] with Hend
  · isplitr; · iexact HC
    isplitl [Hpost]; · iexact Hpost
    isplitl [Ab] <;> iassumption
  imodintro
  iapply Hk
  iexact Hend

set_option maxRecDepth 4000 in
/-- What the library hands the body. -/
def bodyPre' (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
/-- The library's obligation for the body of device `c`. -/
theorem body_obligation (c : Dev nD) : BodyObligation (dats (F := F) m ρ 0 c) (defs₀ (F := F)) 𝒱₀ () Set.univ := fun t => by
  rw [fin_N0 t, bigSep_W, bigSep_W]
  simp only [owns_whole]
  show bodyPre' m ρ c ⊢ WP c (cc0_body (Memref.whole cc0_stg0_0) (Memref.isWhole_whole _) (Memref.whole cc0_stg1_0) (Memref.isWhole_whole _)
      cc0_scratch0 cc0_scratch1 cc0_scratch2 cc0_scratch3) (fun _ => bodyPost m ρ c)
  unfold bodyPre' start
  iintro ⟨⟨⟨%K, Hg⟩, Hrest⟩, Ho⟩
  iapply (sound_body m ρ K c fun _ => bodyPost m ρ c)
  unfold bodyPre
  isplitr []
  · isplitl [Hg Hrest]
    · isplitl [Hg] <;> iassumption
    iexact Ho
  · iintro H; iexact H

end Body

end Cert.Gather

end
-- ==== Proof.Deal.lean ====
/-
# Dealing the ghost state

What the launch makes of every device's counters: the cells' invariants, every device's seats at its own cells, and the
duty tokens passed on to the devices that pay the duties. And the credit every device is owed at launch.
-/
module

public import proofs.«01_k».proof.Proof.Device

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells one by one -/

/-- Something held for every value of an option is held for none and for every value. -/
theorem bigSep_opt {I : Type} [Fintype I] [DecidableEq I] (Φ : Option I → sProp 𝕄) :
    bigSep Finset.univ Φ = iprop(Φ none ∗ bigSep Finset.univ fun i => Φ (some i)) := by
  have e : (Finset.univ : Finset (Option I)).erase none = Finset.univ.map Function.Embedding.some := by
    ext o
    rw [Finset.mem_erase, Finset.mem_map]
    cases o with
    | none =>
      refine ⟨fun h => absurd rfl h.1, fun h => ?_⟩
      obtain ⟨i, _, h⟩ := h
      exact absurd h (Option.some_ne_none i)
    | some i => exact ⟨fun _ => ⟨i, Finset.mem_univ _, rfl⟩, fun _ => ⟨Option.some_ne_none i, Finset.mem_univ _⟩⟩
  rw [bigSep_univ_at Φ none, e, bigSep_map]; rfl

/-- Something held for every transfer cell is held for each of the four families. -/
theorem bigSep_families (Φ : Fin 4 × Fin 16 → sProp 𝕄) :
    bigSep Finset.univ Φ = iprop((bigSep Finset.univ fun k => Φ (0, k)) ∗ (bigSep Finset.univ fun k => Φ (1, k))
      ∗ (bigSep Finset.univ fun k => Φ (2, k)) ∗ (bigSep Finset.univ fun k => Φ (3, k))) := by
  rw [bigSep_univ_prod]
  exact bigSep_univ_eq_bigSepL [0, 1, 2, 3] (by decide) (by decide) _

/-- Something held for every cell of a device, cell by cell. -/
theorem bigSep_cells (Φ : CI → sProp 𝕄) :
    bigSep Finset.univ Φ = iprop(Φ none ∗ (bigSep Finset.univ fun k => Φ (some (0, k))) ∗ (bigSep Finset.univ fun k => Φ (some (1, k)))
      ∗ (bigSep Finset.univ fun k => Φ (some (2, k))) ∗ (bigSep Finset.univ fun k => Φ (some (3, k)))) := by
  rw [bigSep_opt, bigSep_families]

/-- The transfer semaphores are the kernel's own; -/
abbrev osem (p : Fin 4 × Fin 16) : SemLoc sig := .dma (xsem p.1 p.2)

/-- they are distinct and no staging semaphores. -/
theorem ownSemFacts : Pipeline.OwnSemFacts cfg0.spec osem where
  isScoped := by decide
  inj p p' h := by
    have := congrArg slotOf h
    rw [slotOf_xsem, slotOf_xsem] at this
    exact Option.some.inj this
  disj p w s h := by
    have h' := congrArg slotOf h
    rw [slotOf_xsem] at h'
    have hs : ∀ (w : Fin 2) (s : Fin (spec0 w).nbuf), slotOf (.dma ((spec0 w).sem s)) = none := by decide
    exact Option.some_ne_none _ (h'.trans (hs w s))

/-- A device's transfer counters at zero, family by family. -/
theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros; rw [bigSep_families]; rfl
/-- The barrier semaphore is the one the launch keeps. -/
theorem unscopedSems0_eq (c : Dev nD) : (unscopedSems0 c : sProp 𝕄) = semVal (cell c none) 0 := by
  unfold unscopedSems0; rw [bigSep_eq_bigSepL_of_eq [SemLoc.reg barS] (by decide) (by decide)]; rfl

/-- The counters of all the cells of a device. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [ownSems0_eq, unscopedSems0_eq, bigSep_cells]
  unfold zeros
  iintro ⟨HZ, HB⟩
  isplitl [HB]; · iexact HB
  iexact HZ

/-! ## The launch's ghost element -/

/-- A cell of a device, as a function of the pair. -/
abbrev cellP (ci : Dev nD × CI) : GSem nD τ sig := cell ci.1 ci.2
/-- Different pairs name different cells. -/
theorem cellP_injective : Function.Injective cellP := fun a b h => Prod.ext (cell_inj h).1 (cell_inj h).2

/-- The duty tokens: every cell's first duty, and (`none`) the barrier's second. -/
abbrev tokOf (ci : Dev nD × Option CI) : GSem nD τ sig × ℕ × Bool := (cell ci.1 (ci.2.getD none), 0, ci.2.isNone)
/-- Different indices name different tokens. -/
theorem tokOf_injective : Function.Injective tokOf := by
  rintro ⟨c, o⟩ ⟨c', o'⟩ h
  have h1 := cell_inj (congrArg Prod.fst h)
  have h2 : o.isNone = o'.isNone := congrArg (fun x => x.2.2) h
  refine Prod.ext h1.1 ?_
  cases o <;> cases o'
  · rfl
  · cases h2
  · cases h2
  · exact congrArg some h1.2

/-- All the cells of all the devices, -/
def allCells : Finset (GSem nD τ sig) := Finset.univ.map ⟨cellP, cellP_injective⟩
/-- and all their duty tokens. -/
def allToks : Finset (GSem nD τ sig × ℕ × Bool) := Finset.univ.map ⟨tokOf, tokOf_injective⟩

/-- The launch's element: the staging cells' ghost state and the kernel's cells'. -/
def u₀ : UU := (initOf (Pipeline.cells cfgs cellOf_inj) (Pipeline.launchToks cfgs cellOf_inj), initOf allCells allToks)

/-- The duty tokens of a device's own cells. -/
def toks (c : Dev nD) : sProp 𝕄 :=
  iprop(dutyTok ER (cell c none) 0 true ∗ bigSep Finset.univ fun i : CI => dutyTok ER (cell c i) 0 false)

/-- What the element deals a device. -/
def G (c : Dev nD) : sProp 𝕄 :=
  iprop((bigSep Finset.univ fun i : CI => roundState ER (sched m ρ) (cell c i) 0)
    ∗ ((bigSep Finset.univ fun i : CI => atPos ER (cell c i) 0 ∅ 0) ∗ bigSep Finset.univ fun i : CI => reached ER (cell c i) 0) ∗ toks c)

/-- What the global step makes of it. -/
def G' (c : Dev nD) : sProp 𝕄 := iprop(∃ K, ghost m ρ K c)

/-- The element deals every device its share. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_opt]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Every device's cells get their invariants -/

/-- The invariants of a device's cells, their names not yet gathered. -/
def someInvs (c : Dev nD) : sProp 𝕄 := bigSep Finset.univ fun i : CI => iprop(∃ κ : ℕ, cellInv ER (sched m ρ) κ (cell c i))

/-- A device's counters at zero and its cells' first states become its cells' invariants. -/
theorem invs_alloc (c : Dev nD) :
    iprop((bigSep Finset.univ fun i : CI => semVal (cell c i) 0) ∗ bigSep Finset.univ fun i : CI => roundState ER (sched m ρ) (cell c i) 0)
      ⊢ (|={Set.univ}=> someInvs m ρ c : sProp 𝕄) := by
  rw [← bigSep_sep']
  exact (bigSep_mono fun i _ => (Rounds.body_intro ER (sched m ρ) (cell c i)).trans inv_alloc).trans (bigSep_fupd _ _)

/-- One device's step: its invariants made, its seats and tokens kept. -/
theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(someInvs m ρ c
          ∗ ((bigSep Finset.univ fun i : CI => atPos ER (cell c i) 0 ∅ 0) ∗ bigSep Finset.univ fun i : CI => reached ER (cell c i) 0) ∗ toks c) := by
  unfold G
  iintro ⟨Hos, Hus, Hst, Hat, Htok⟩
  ihave Hv := (sems_eq (F := F) c) $$ [Hos Hus]
  · isplitl [Hos] <;> iassumption
  imod (invs_alloc m ρ c) $$ [Hv Hst] with Hinv
  · isplitl [Hv] <;> iassumption
  imodintro
  isplitl [Hinv]; · iexact Hinv
  isplitl [Hat]; · iexact Hat
  iexact Htok

/-- The duty tokens passed on: a barrier's first token across the first axis, its second across the second; a receive
    cell's token to the device that copies there. -/
theorem toks_around : (bigSep Finset.univ fun c : Dev nD => (toks c : sProp 𝕄)) ⊢ bigSep Finset.univ fun c : Dev nD => payToks c := by
  unfold toks payToks
  simp only [bigSep_cells, bigSep_sep']
  rw [bigSep_univ_equiv flipY (fun c : Dev nD => (dutyTok ER (cell c none) 0 true : sProp 𝕄)),
    bigSep_univ_equiv flipX (fun c : Dev nD => (dutyTok ER (cell c none) 0 false : sProp 𝕄)),
    bigSep_univ_equiv flipX (fun c : Dev nD => (bigSep Finset.univ fun k => dutyTok ER (cell c (some (1, k))) 0 false : sProp 𝕄)),
    bigSep_univ_equiv flipY (fun c : Dev nD => (bigSep Finset.univ fun k => dutyTok ER (cell c (some (3, k))) 0 false : sProp 𝕄))]
  iintro ⟨Hy, Hx, H0, H1, H2, H3⟩
  isplitl [Hx]; · iexact Hx
  isplitl [Hy]; · iexact Hy
  isplitl [H0]; · iexact H0
  isplitl [H1]; · iexact H1
  isplitl [H2]; · iexact H2
  iexact H3

/-- The records, a device's seats and the tokens it pays with are what it runs on. -/
theorem ghost_intro (K : Dev nD × CI → ℕ) (c : Dev nD) :
    iprop(records m ρ K ∗ (bigSep Finset.univ fun i : CI => atPos ER (cell c i) 0 ∅ 0) ∗ payToks c) ⊢ G' m ρ c := by
  unfold G' ghost seats
  rw [bigSep_cells]
  iintro H
  iexists K
  iexact H

/-- The invariants' names gathered, the tokens passed on, every device has what it runs on. -/
theorem regroup :
    (bigSep Finset.univ fun c : Dev nD => iprop(someInvs m ρ c
          ∗ ((bigSep Finset.univ fun i : CI => atPos ER (cell c i) 0 ∅ 0) ∗ bigSep Finset.univ fun i : CI => reached ER (cell c i) 0) ∗ toks c) : sProp 𝕄)
      ⊢ bigSep Finset.univ (G' m ρ) := by
  unfold someInvs
  rw [bigSep_sep', bigSep_sep', bigSep_sep',
    ← bigSep_univ_prod (fun ck : Dev nD × CI => iprop(∃ κ : ℕ, cellInv ER (sched m ρ) κ (cell ck.1 ck.2))),
    ← bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (sched m ρ) κ (cell ck.1 ck.2) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · rw [bigSep_sep']
    isplitl [Hat]; · iexact Hat
    iexact Htk

/-- The global step, over all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

/-! ## The credit at launch -/

/-- What a debt at a cell is at another. -/
theorem tally_at (a c : Dev nD) (i i' : CI) (n : ℕ) :
    (tallyAt (cell a i') () n : CellTallies nD τ sig Unit) (cell c i) () = if c = a then (if i = i' then n else 0) else 0 := by
  rw [tallyAt_apply]
  by_cases h : c = a
  · subst h
    rw [if_pos rfl]
    by_cases h' : i = i'
    · subst h'; rw [if_pos rfl, if_pos ⟨rfl, rfl⟩]
    · rw [if_neg h', if_neg fun hh => h' (cell_inj hh.1).2]
  · rw [if_neg h, if_neg fun hh => h (cell_inj hh.1).1]

/-- What the debts of a family of copies to device `a` are at a cell. -/
theorem family_at (a c : Dev nD) (j : Fin 4) (i : CI) :
    (∑ k ∈ geq 0, (tallyAt (cell a (some (j, k))) () N : CellTallies nD τ sig Unit)) (cell c i) ()
      = if c = a then (if ∃ k, i = some (j, k) then N else 0) else 0 := by
  rw [Finset.sum_apply, Finsupp.finset_sum_apply, Finset.sum_congr rfl fun k _ => tally_at a c i (some (j, k)) N, geq_zero]
  by_cases h : c = a
  · simp only [if_pos h]
    by_cases h' : ∃ k, i = some (j, k)
    · obtain ⟨k, rfl⟩ := h'
      rw [if_pos ⟨k, rfl⟩, Finset.sum_eq_single k (fun k' _ hk => if_neg fun e => hk (Prod.ext_iff.mp (Option.some.inj e)).2.symm)
        (fun hk => absurd (Finset.mem_univ k) hk), if_pos rfl]
    · rw [if_neg h']
      exact Finset.sum_eq_zero fun k _ => if_neg fun e => h' ⟨k, e⟩
  · simp only [if_neg h]
    exact Finset.sum_const_zero

/-- What a device owes a cell at launch. -/
theorem owed_at (d c : Dev nD) (i : CI) : O₀ d (cell c i) ()
    = (((if c = Y d then (if ∃ k, i = some (3, k) then N else 0) else 0) + (if c = X d then (if ∃ k, i = some (1, k) then N else 0) else 0))
      + (if c = Y d then (if i = none then 1 else 0) else 0)) + (if c = X d then (if i = none then 1 else 0) else 0) := by
  unfold O₀ O₁ O₂
  simp only [Pi.add_apply, Finsupp.add_apply]
  rw [tally_at, tally_at]
  unfold fwdOwe dirOwe
  rw [family_at, family_at]

/-- One device only is a given device's neighbour. -/
theorem sum_flip (f : Dev nD → Dev nD) (hf : ∀ d, f (f d) = d) (c : Dev nD) (n : ℕ) : (∑ d, if c = f d then n else 0) = n := by
  rw [Finset.sum_eq_single (f c) (fun d _ hd => if_neg fun e => hd (by rw [e, hf])) (fun h => absurd (Finset.mem_univ _) h), hf, if_pos rfl]

/-- What a cell is owed at launch. -/
def due (i : CI) : ℕ := (((if ∃ k, i = some (3, k) then N else 0) + (if ∃ k, i = some (1, k) then N else 0)) + (if i = none then 1 else 0)) + (if i = none then 1 else 0)

/-- What the launch credits a cell is what the cell is owed. -/
theorem launch_at (c : Dev nD) (i : CI) :
    tallyOn (cell c i) (launchCredit (Pipeline.owing O₀) 0 (cell c i)) = (tallyAt (cell c i) () (due i) : CellTallies nD τ sig Unit) := by
  unfold tallyAt; refine congrArg _ (Finsupp.ext fun u => ?_); cases u
  rw [Finsupp.single_eq_same]
  unfold cell
  rw [Pipeline.launchCredit_owing]
  refine (Finset.sum_congr rfl fun d _ => owed_at d c i).trans ?_
  rw [Finset.sum_add_distrib, Finset.sum_add_distrib, Finset.sum_add_distrib, sum_flip Y Y_Y, sum_flip X X_X, sum_flip Y Y_Y, sum_flip X X_X]
  rfl

/-- Cells of different families are different. -/
theorem other_family {j j' : Fin 4} (hj : j ≠ j') {k k' : Fin 16} (h : (some (j, k) : CI) = some (j', k')) : False :=
  hj (congrArg Prod.fst (Option.some.inj h))

/-- The barrier's cell is owed two units, -/
theorem due_bar : due none = 2 := by
  unfold due
  rw [if_neg (fun ⟨_, h⟩ => by cases h), if_neg (fun ⟨_, h⟩ => by cases h), if_pos rfl]
/-- a cell of direct arrivals a chunk, -/
theorem due_direct (k : Fin 16) : due (some (1, k)) = N := by
  unfold due
  rw [if_neg (fun ⟨_, h⟩ => other_family (by decide) h), if_pos ⟨k, rfl⟩, if_neg (fun h => by cases h)]
  omega
/-- and so is a cell of forwarded arrivals. -/
theorem due_forward (k : Fin 16) : due (some (3, k)) = N := by
  unfold due
  rw [if_pos ⟨k, rfl⟩, if_neg (fun ⟨_, h⟩ => other_family (by decide) h), if_neg (fun h => by cases h)]
  omega

/-- The launch's credit to a device, cell by cell. -/
theorem creds (c : Dev nD) : (Pipeline.launchCred O₀ c : sProp 𝕄) ⊢ credits c := by
  have hinj : Function.Injective csem := fun i i' h => by rw [← slotOf_csem i, h, slotOf_csem]
  unfold Pipeline.launchCred
  refine (bigSep_subset (Finset.subset_univ (Finset.univ.map ⟨csem, hinj⟩))).trans ?_
  rw [bigSep_map]
  refine (show _ ⊢ bigSep Finset.univ fun i : CI => cred (tallyAt (cell c i) () (due i)) from
    Entails.of_eq (bigSep_congr fun i _ => congrArg _ (launch_at c i))).trans ?_
  rw [bigSep_cells, due_bar]
  simp only [due_direct, due_forward]
  unfold credits
  iintro ⟨H, -, H1, -, H3⟩
  isplitl [H]; · iexact H
  isplitl [H1] <;> iassumption

end Cert.Gather

end
-- ==== Proof.Run.lean ====
/-
# The run

From any memory with zero counters every weakly fair run of the sixteen devices ends, the argument of every device as it
was, its result what it gathers, and every counter at zero again.
-/
module

public import proofs.«01_k».proof.Proof.Deal
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch -/

/-- Both arrays are held whole. -/
theorem share_eq (c : Dev nD) (w : Fin cfg0.W) : (dats m ρ 0 c).share w = fullShare := by unfold Dat.share; split <;> rfl

/-- What a device starts with, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The region's first state is what a device starts with. -/
theorem first_state (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -⟩
  iexact Hs

/-- The region's last state has all the counters at zero. -/
theorem last_state (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq, ownSems0_eq, unscopedSems0_eq]
  unfold finish
  iintro ⟨HZ, HB⟩
  isplitl [HB]; · iexact HB
  isplitl [HZ]; · iexact HZ
  iempintro

/-- The staging waits are allowed: their level is the lowest. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays of device `c` end at. -/
def finalA (c : Dev nD) (w : Fin cfg0.W) : Buf (Elt F) ((cfg0.win w).arr.view.loc (c : Thread nD τ)) := (dats m ρ 0 c).arrAt w cfg0.N

/-- The final states whose arrays are these. -/
def Ended : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, every device's arrays at their final contents and every counter at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := first_state m ρ) (hout := last_state m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends at what it held. -/
theorem finalA_arg (c : Dev nD) : finalA m ρ c (0 : Fin 2) = m ((c : Thread nD τ).loc main_arg0) :=
  (dats (F := F) m ρ 0 c).arrAt_in (0 : Fin 2) rfl _

/-! ## The contents -/

/-- The staged argument is the argument: the window's one block is the whole array. -/
theorem xstg_eq (c : Dev nD) : xstg m ρ c = m ((c : Thread nD τ).loc main_arg0) := by
  funext i
  show m ((c : Thread nD τ).loc main_arg0) ((win0_0.blk (0 : Fin 1)).view.emb i) = _
  congr 1
  funext a
  apply Fin.ext
  exact (ValueKit.view_emb_slice_whole_unit_val main_arg0 _ _ _ i a).trans
    ((congrArg (fun n => n + (i a).val) (Nat.zero_mul _)).trans (Nat.zero_add _))

/-- The result's one block is the whole array, so the result ends at what the device gathers. -/
theorem finalA_out (c : Dev nD) : finalA m ρ c (1 : Fin 2) = full m ρ c := by
  refine (dats m ρ 0 c).arrAt_eq_of_covers (1 : Fin 2) (full m ρ c) (by decide +kernel) fun t ht i => ?_
  obtain rfl := fin_N0 t
  show full m ρ c i = full m ρ c ((win0_1.blk (0 : Fin 1)).view.emb i)
  congr 1
  funext a
  apply Fin.ext
  exact ((ValueKit.view_emb_slice_whole_unit_val main_v1 _ _ _ i a).trans
    ((congrArg (fun n => n + (i a).val) (Nat.zero_mul _)).trans (Nat.zero_add _))).symm

end Cert.Gather

end
-- ==== Proof.Whole.lean ====
/-
# What is gathered is the whole array

The two halves that the devices' arguments hold are the halves of one array, and what every device gathers is that array;
the reference returns its argument.
-/
module

public import proofs.«01_k».proof.Proof.Run
public import proofs.«01_k».proof.Proof.Gen.ReferenceIdeal
public import Idealize.ShloMosaic.Lib.Layout
public import Idealize.ShloMosaic.Lib.StableHlo.Run

@[expose] public section

noncomputable section

namespace Cert.Gather

open Cert.KernelIdeal Cert.KernelIdeal.Gen
open Idealize.ShloMosaic
open Idealize.ShloMosaic.TcCoe
open Idealize.SL.Sem

/-! ## The halves of one array -/

/-- Row `r` of the result comes from a device in the half of the mesh whose arguments hold row `r`. -/
theorem source_half (c : Dev nD) (r : ℕ) (hr : r < 16384) : (source c r).val / 8 = r / 8192 := by
  have := x_le c
  unfold source
  split
  · next h => exact h.symm
  · next h =>
    split
    · rw [X_x]; omega
    · rw [X_x, Y_x]; omega

/-- If every device's argument is its half of the array `v`, every device gathers `v`. -/
theorem gathered_whole {α : Type} (v : (⟨2, ![16384, 1024]⟩ : Shape).Idx → α) (x : Dev nD → (⟨2, ![8192, 1024]⟩ : Shape).Idx → α)
    (hx : ∀ d : Dev nD, x d = Layout.blockN ⟨2, ![8192, 1024]⟩ ⟨2, ![16384, 1024]⟩ (Layout.meshBlock [2, 2, 4] ![[0], []] d) v)
    (c : Dev nD) : gathered x c = v := by
  funext i
  have hi : (i 0).val < 16384 := (i 0).isLt
  have hs := source_half c (i 0).val hi
  have hl := x_le (source c (i 0).val)
  unfold gathered
  rw [hx, Layout.blockN_apply]
  congr 1
  refine funext ((Fin.forall_fin_two (p := fun a => _ = _)).mpr ⟨Fin.ext ?_, Fin.ext ?_⟩)
  · refine (Layout.TilesN.idx_val _ _ _ _).trans ?_
    show ((source c (i 0).val).val / 8 % 2 * 1 + 0) * 8192 + (inHalf i 0).val = (i 0).val
    rw [inHalf_0]; omega
  · refine (Layout.TilesN.idx_val _ _ _ _).trans ?_
    show 0 * 1024 + (inHalf i 1).val = (i 1).val
    rw [inHalf_1]; omega

/-! ## The kernel's run, read at its argument and its result -/

variable {F : FTy → Type} [FloatOps F] (m : (ℓ : Loc nD τ sig) → Buf (Elt F) ℓ) (ρ : Dev nD → PrngReg)

/-- Every run ends with every device's result what it gathers of the arguments, its argument what it was, and every
    counter at zero. -/
theorem run_gathers : θ_run defs (onTc (τ := τ) (main (F := F))) ⟨m, fun _ => 0, ρ⟩ fun r =>
    (∀ c : Dev nD, r.2.mem ((c.tc : Thread nD τ).loc main_v1) = gathered (fun d => m ((d.tc : Thread nD τ).loc main_arg0)) c
      ∧ r.2.mem ((c.tc : Thread nD τ).loc main_arg0) = m ((c.tc : Thread nD τ).loc main_arg0)) ∧ r.2.sem = fun _ => 0 :=
  (θ_run defs _ _).mono (fun _ h => ⟨fun c => ⟨(h.1 c (1 : Fin 2)).trans ((finalA_out m ρ c).trans
      (congrArg (fun x => gathered x c) (funext fun d => xstg_eq m ρ d))), (h.1 c (0 : Fin 2)).trans (finalA_arg m ρ c)⟩, h.2⟩)
    (run_main m ρ)

/-! ## The reference's run -/

/-- The reference does nothing: its argument, which is its result, is what it was, and every counter is zero. -/
theorem reference_run (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩
      fun r => (∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) ∧ r.2.sem = fun _ => 0 :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl)
      (fun _ => trivial) m' ρ')

end Cert.Gather

end
-- ==== Proof.lean ====
/-
# The proof of the certificate's claims

The two frames of the kernel are its run with the values dropped, at the floats' words and at the extended reals; the
algebraic claim is the run at the extended reals, what is gathered being the reference's array.
-/
module

public import proofs.«01_k».proof.Defs
public import proofs.«01_k».proof.Proof.Whole
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

set_option maxRecDepth 65536 in
/-- The kernel's body table is the idealized kernel's: the two texts are the same. -/
theorem same_bodies : @Cert.Kernel.defs₀ Bits _ = @Cert.KernelIdeal.defs₀ Bits _ := by
  funext p ℓ a
  cases p with
  | tc =>
    match ℓ, a with
    | ⟨0, _⟩, (t, s) => rfl
  | _ => rfl

set_option maxRecDepth 65536 in
/-- So are the tables with the call's region and pipeline. -/
theorem same_tables : @Cert.Kernel.defs Bits _ = @Cert.KernelIdeal.defs Bits _ :=
  congrArg (fun d => Pipeline.defs (Cert.Kernel.pcfgs (F := Bits)) d) same_bodies

/-- The kernel's frame: its text is that of the idealized kernel, whose run is stated over any float values. -/
theorem frame_kernel : Cert.quiescent_Kernel := by
  intro m ρ _
  rw [same_tables]
  exact (θ_run Cert.KernelIdeal.defs _ _).mono (fun _ h => ⟨fun c => (h.1 c).2, h.2⟩) (Cert.Gather.run_gathers (F := Bits) m ρ)

/-- The idealized kernel's frame. -/
theorem frame_ideal : Cert.quiescent_KernelIdeal := fun m ρ _ =>
  (θ_run Cert.KernelIdeal.defs _ _).mono (fun _ h => ⟨fun c => (h.1 c).2, h.2⟩) (Cert.Gather.run_gathers (F := Ideal) m ρ)

/-- The reference's frame. -/
theorem frame_reference : Cert.quiescent_ReferenceIdeal := fun m ρ _ => Cert.Gather.reference_run (F := Ideal) m ρ

/-- Every device's result is the reference's array. -/
theorem same_result : Cert.algebraic_KernelIdeal_ReferenceIdeal := fun m ρ m' ρ' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Cert.Gather.gathered_whole _ _ hx c), (h.1 c).2⟩)
      (Cert.Gather.run_gathers (F := Ideal) m ρ),
    (θ_run Cert.ReferenceIdeal.defs _ _).mono (fun _ h => ⟨h.1 0, h.1 0⟩) (Cert.Gather.reference_run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, same_result⟩

end Cert.Proof

end
